-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384x128 : Shape := ⟨2, ![16384, 128]⟩
abbrev S16384 : Shape := ⟨1, ![16384]⟩
abbrev S128x2 : Shape := ⟨2, ![128, 2]⟩
abbrev S2 : Shape := ⟨1, ![2]⟩
abbrev S64x2x2 : Shape := ⟨3, ![64, 2, 2]⟩
abbrev S64x2 : Shape := ⟨2, ![64, 2]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : FVec F S128x2 .f32) (main_arg3 : FVec F S2 .f32) (main_arg4 : FVec F S64x2x2 .f32) (main_arg5 : FVec F S64x2 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 64#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x128 : Shape := ⟨2, ![16384, 128]⟩
abbrev S16384 : Shape := ⟨1, ![16384]⟩
abbrev S128x2 : Shape := ⟨2, ![128, 2]⟩
abbrev S2 : Shape := ⟨1, ![2]⟩
abbrev S64x2x2 : Shape := ⟨3, ![64, 2, 2]⟩
abbrev S64x2 : Shape := ⟨2, ![64, 2]⟩
abbrev S64x4 : Shape := ⟨2, ![64, 4]⟩
abbrev S_ : Shape := ⟨0, ![]⟩
abbrev S64x122 : Shape := ⟨2, ![64, 122]⟩
abbrev S64x128 : Shape := ⟨2, ![64, 128]⟩
abbrev S2048x128 : Shape := ⟨2, ![2048, 128]⟩
abbrev S512 : Shape := ⟨1, ![512]⟩
abbrev S256x32 : Shape := ⟨2, ![256, 32]⟩
abbrev S16 : Shape := ⟨1, ![16]⟩
abbrev S1x2 : Shape := ⟨2, ![1, 2]⟩
abbrev S4096x128 : Shape := ⟨2, ![4096, 128]⟩
abbrev S512x128 : Shape := ⟨2, ![512, 128]⟩
abbrev S2x16 : Shape := ⟨2, ![2, 16]⟩
abbrev S1x16 : Shape := ⟨2, ![1, 16]⟩
abbrev S128x16 : Shape := ⟨2, ![128, 16]⟩
abbrev S256x128 : Shape := ⟨2, ![256, 128]⟩
abbrev S256x16 : Shape := ⟨2, ![256, 16]⟩
abbrev S2048x16 : Shape := ⟨2, ![2048, 16]⟩
abbrev S1024x128 : Shape := ⟨2, ![1024, 128]⟩
abbrev S1024x16 : Shape := ⟨2, ![1024, 16]⟩
abbrev S8x256x8x2 : Shape := ⟨4, ![8, 256, 8, 2]⟩
abbrev S8x8x256x2 : Shape := ⟨4, ![8, 8, 256, 2]⟩
abbrev S16384x2 : Shape := ⟨2, ![16384, 2]⟩

abbrev nBuf : Table → Nat
  | .hbm => 17
  | .local .tc .vmem => 12
  | .local .scVector .vmem => 3
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S128x2, .f32⟩
  | .hbm, ⟨3, _⟩ => ⟨S2, .f32⟩
  | .hbm, ⟨4, _⟩ => ⟨S64x2x2, .f32⟩
  | .hbm, ⟨5, _⟩ => ⟨S64x2, .f32⟩
  | .hbm, ⟨6, _⟩ => ⟨S64x4, .f32⟩
  | .hbm, ⟨7, _⟩ => ⟨S_, .f32⟩
  | .hbm, ⟨8, _⟩ => ⟨S64x122, .f32⟩
  | .hbm, ⟨9, _⟩ => ⟨S64x128, .f32⟩
  | .hbm, ⟨10, _⟩ => ⟨S2048x128, .f32⟩
  | .hbm, ⟨11, _⟩ => ⟨S1x2, .f32⟩
  | .hbm, ⟨12, _⟩ => ⟨S2048x128, .f32⟩
  | .hbm, ⟨13, _⟩ => ⟨S2048x16, .f32⟩
  | .hbm, ⟨14, _⟩ => ⟨S8x256x8x2, .f32⟩
  | .hbm, ⟨15, _⟩ => ⟨S8x8x256x2, .f32⟩
  | .hbm, ⟨16, _⟩ => ⟨S16384x2, .f32⟩
  | .local .tc .vmem, ⟨0, _⟩ => ⟨S4096x128, .f32⟩
  | .local .tc .vmem, ⟨1, _⟩ => ⟨S4096x128, .f32⟩
  | .local .tc .vmem, ⟨2, _⟩ => ⟨S128x2, .f32⟩
  | .local .tc .vmem, ⟨3, _⟩ => ⟨S1x2, .f32⟩
  | .local .tc .vmem, ⟨4, _⟩ => ⟨S512x128, .f32⟩
  | .local .tc .vmem, ⟨5, _⟩ => ⟨S512x128, .f32⟩
  | .local .tc .vmem, ⟨6, _⟩ => ⟨S1024x128, .f32⟩
  | .local .tc .vmem, ⟨7, _⟩ => ⟨S1024x128, .f32⟩
  | .local .tc .vmem, ⟨8, _⟩ => ⟨S1024x128, .f32⟩
  | .local .tc .vmem, ⟨9, _⟩ => ⟨S1024x128, .f32⟩
  | .local .tc .vmem, ⟨10, _⟩ => ⟨S1024x16, .f32⟩
  | .local .tc .vmem, ⟨11, _⟩ => ⟨S1024x16, .f32⟩
  | .local .scVector .vmem, ⟨0, _⟩ => ⟨S64x128, .f32⟩
  | .local .scVector .vmem, ⟨1, _⟩ => ⟨S512, .i32⟩
  | .local .scVector .vmem, ⟨2, _⟩ => ⟨S256x32, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v2_scv : Ref sig .scVector := ⟨.hbm, 9, rfl⟩
abbrev main_arg1_scv : Ref sig .scVector := ⟨.hbm, 1, rfl⟩
abbrev main_v3_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v29 : BitVec 32 := Scalar.muli v1 c512_i32
  ![v29.toNat]
@[reducible] def k0_t1_loop : Scf.Loop 32 :=
  let c0_i32_11 : BitVec 32 := 0#32
  let c32_i32 : BitVec 32 := 32#32
  let v31 : BitVec 32 := Scalar.addi c0_i32_11 c32_i32
  let c1_i32_12 : BitVec 32 := 1#32
  ⟨c0_i32_11, v31, c1_i32_12⟩
def k0_off2 (k0_t1 : Fin k0_t1_loop.trips) : Fin 1 → Nat :=
  let c0_i32_11 : BitVec 32 := 0#32
  let c1_i32_12 : BitVec 32 := 1#32
  let arg8 : BitVec 32 := Scf.iv c0_i32_11 c1_i32_12 k0_t1
  let c16_i32 : BitVec 32 := 16#32
  let v34 : BitVec 32 := Scalar.muli arg8 c16_i32
  let v35 : Index := Scalar.indexCast v34
  ![v35.toNat]

def k0_chk1 (v36 : IVec S16 32) (v71 : IVec S16 32) : Prop :=
  (∀ a x, ((![v36, v71] : Fin 2 → IVec S16 32) a x).toNat < S64x128.size a)
theorem k0_idx1_inb : ∀ (v36 : IVec S16 32) (v71 : IVec S16 32) (k0_hw1 : k0_chk1 v36 v71), ∀ a x, ((![v36, v71] : Fin 2 → IVec S16 32) a x).toNat < S64x128.size a := fun v36 v71 k0_hw1 => k0_hw1

def k0_chk2 (v49 : IVec S16 32) (v70 : IVec S16 32) : Prop :=
  (∀ a x, ((![v49, v70] : Fin 2 → IVec S16 32) a x).toNat < S256x32.size a)
theorem k0_idx2_inb : ∀ (v49 : IVec S16 32) (v70 : IVec S16 32) (k0_hw2 : k0_chk2 v49 v70), ∀ a x, ((![v49, v70] : Fin 2 → IVec S16 32) a x).toNat < S256x32.size a := fun v49 v70 k0_hw2 => k0_hw2

def k0_chk3 (v36 : IVec S16 32) (v76 : IVec S16 32) : Prop :=
  (∀ a x, ((![v36, v76] : Fin 2 → IVec S16 32) a x).toNat < S64x128.size a)
theorem k0_idx3_inb : ∀ (v36 : IVec S16 32) (v76 : IVec S16 32) (k0_hw3 : k0_chk3 v36 v76), ∀ a x, ((![v36, v76] : Fin 2 → IVec S16 32) a x).toNat < S64x128.size a := fun v36 v76 k0_hw3 => k0_hw3

def k0_chk4 (v49 : IVec S16 32) (v75 : IVec S16 32) : Prop :=
  (∀ a x, ((![v49, v75] : Fin 2 → IVec S16 32) a x).toNat < S256x32.size a)
theorem k0_idx4_inb : ∀ (v49 : IVec S16 32) (v75 : IVec S16 32) (k0_hw4 : k0_chk4 v49 v75), ∀ a x, ((![v49, v75] : Fin 2 → IVec S16 32) a x).toNat < S256x32.size a := fun v49 v75 k0_hw4 => k0_hw4

def k0_chk5 (v36 : IVec S16 32) (v81 : IVec S16 32) : Prop :=
  (∀ a x, ((![v36, v81] : Fin 2 → IVec S16 32) a x).toNat < S64x128.size a)
theorem k0_idx5_inb : ∀ (v36 : IVec S16 32) (v81 : IVec S16 32) (k0_hw5 : k0_chk5 v36 v81), ∀ a x, ((![v36, v81] : Fin 2 → IVec S16 32) a x).toNat < S64x128.size a := fun v36 v81 k0_hw5 => k0_hw5

def k0_chk6 (v49 : IVec S16 32) (v80 : IVec S16 32) : Prop :=
  (∀ a x, ((![v49, v80] : Fin 2 → IVec S16 32) a x).toNat < S256x32.size a)
theorem k0_idx6_inb : ∀ (v49 : IVec S16 32) (v80 : IVec S16 32) (k0_hw6 : k0_chk6 v49 v80), ∀ a x, ((![v49, v80] : Fin 2 → IVec S16 32) a x).toNat < S256x32.size a := fun v49 v80 k0_hw6 => k0_hw6

def k0_chk7 (v36 : IVec S16 32) (v86 : IVec S16 32) : Prop :=
  (∀ a x, ((![v36, v86] : Fin 2 → IVec S16 32) a x).toNat < S64x128.size a)
theorem k0_idx7_inb : ∀ (v36 : IVec S16 32) (v86 : IVec S16 32) (k0_hw7 : k0_chk7 v36 v86), ∀ a x, ((![v36, v86] : Fin 2 → IVec S16 32) a x).toNat < S64x128.size a := fun v36 v86 k0_hw7 => k0_hw7

def k0_chk8 (v49 : IVec S16 32) (v85 : IVec S16 32) : Prop :=
  (∀ a x, ((![v49, v85] : Fin 2 → IVec S16 32) a x).toNat < S256x32.size a)
theorem k0_idx8_inb : ∀ (v49 : IVec S16 32) (v85 : IVec S16 32) (k0_hw8 : k0_chk8 v49 v85), ∀ a x, ((![v49, v85] : Fin 2 → IVec S16 32) a x).toNat < S256x32.size a := fun v49 v85 k0_hw8 => k0_hw8

def k0_chk9 (v36 : IVec S16 32) (v91 : IVec S16 32) : Prop :=
  (∀ a x, ((![v36, v91] : Fin 2 → IVec S16 32) a x).toNat < S64x128.size a)
theorem k0_idx9_inb : ∀ (v36 : IVec S16 32) (v91 : IVec S16 32) (k0_hw9 : k0_chk9 v36 v91), ∀ a x, ((![v36, v91] : Fin 2 → IVec S16 32) a x).toNat < S64x128.size a := fun v36 v91 k0_hw9 => k0_hw9

def k0_chk10 (v49 : IVec S16 32) (v90 : IVec S16 32) : Prop :=
  (∀ a x, ((![v49, v90] : Fin 2 → IVec S16 32) a x).toNat < S256x32.size a)
theorem k0_idx10_inb : ∀ (v49 : IVec S16 32) (v90 : IVec S16 32) (k0_hw10 : k0_chk10 v49 v90), ∀ a x, ((![v49, v90] : Fin 2 → IVec S16 32) a x).toNat < S256x32.size a := fun v49 v90 k0_hw10 => k0_hw10

def k0_chk11 (v36 : IVec S16 32) (v96 : IVec S16 32) : Prop :=
  (∀ a x, ((![v36, v96] : Fin 2 → IVec S16 32) a x).toNat < S64x128.size a)
theorem k0_idx11_inb : ∀ (v36 : IVec S16 32) (v96 : IVec S16 32) (k0_hw11 : k0_chk11 v36 v96), ∀ a x, ((![v36, v96] : Fin 2 → IVec S16 32) a x).toNat < S64x128.size a := fun v36 v96 k0_hw11 => k0_hw11

def k0_chk12 (v49 : IVec S16 32) (v95 : IVec S16 32) : Prop :=
  (∀ a x, ((![v49, v95] : Fin 2 → IVec S16 32) a x).toNat < S256x32.size a)
theorem k0_idx12_inb : ∀ (v49 : IVec S16 32) (v95 : IVec S16 32) (k0_hw12 : k0_chk12 v49 v95), ∀ a x, ((![v49, v95] : Fin 2 → IVec S16 32) a x).toNat < S256x32.size a := fun v49 v95 k0_hw12 => k0_hw12
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c256_i32 : BitVec 32 := 256#32
  let v32 : BitVec 32 := Scalar.muli v18 c256_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c32_i32_14 : BitVec 32 := 32#32
  let v33 : BitVec 32 := Scalar.muli v28 c32_i32_14
  ![v32.toNat, v33.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S128x2 : Shape := ⟨2, ![128, 2]⟩
abbrev S2 : Shape := ⟨1, ![2]⟩
abbrev S64x2x2 : Shape := ⟨3, ![64, 2, 2]⟩
abbrev S64x2 : Shape := ⟨2, ![64, 2]⟩
abbrev S16384x2 : Shape := ⟨2, ![16384, 2]⟩
abbrev S1x2 : Shape := ⟨2, ![1, 2]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x2x2 : Shape := ⟨3, ![16384, 2, 2]⟩

abbrev nBuf : Space → Nat
  | .hbm => 58
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S128x2, .f32⟩
  | .hbm, ⟨3, _⟩ => ⟨S2, .f32⟩
  | .hbm, ⟨4, _⟩ => ⟨S64x2x2, .f32⟩
  | .hbm, ⟨5, _⟩ => ⟨S64x2, .f32⟩
  | .hbm, ⟨6, _⟩ => ⟨S16384x2, .f32⟩
  | .hbm, ⟨7, _⟩ => ⟨S1x2, .f32⟩
  | .hbm, ⟨8, _⟩ => ⟨S16384x2, .f32⟩
  | .hbm, ⟨9, _⟩ => ⟨S16384x2, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x2x2, .f32⟩
  | .hbm, ⟨29, _⟩ => ⟨S16384x2x2, .i1⟩
  | .hbm, ⟨30, _⟩ => ⟨S_, .f32⟩
  | .hbm, ⟨31, _⟩ => ⟨S16384x2x2, .f32⟩
  | .hbm, ⟨32, _⟩ => ⟨S16384x2x2, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x2, .f32⟩
  | .hbm, ⟨52, _⟩ => ⟨S16384x2, .i1⟩
  | .hbm, ⟨53, _⟩ => ⟨S_, .f32⟩
  | .hbm, ⟨54, _⟩ => ⟨S16384x2, .f32⟩
  | .hbm, ⟨55, _⟩ => ⟨S16384x2, .f32⟩
  | .hbm, ⟨56, _⟩ => ⟨S16384x2, .f32⟩
  | .hbm, ⟨57, _⟩ => ⟨S16384x2, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩

abbrev nD : Nat := 1
abbrev τ : Topo := Topo.v7x

variable {F : FTy → Type} [FloatOps F]
-- ==== Proof.Setup.lean ====
/-
  How the launch theorem reads the program: its configuration of SparseCore calls, its body tables, the resource algebra of
  the proof, the locations of the arrays that the SparseCore call reads and writes, and how those arrays are cut among the
  thirty-two tiles.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Configuration, tables, variants -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores, -/
theorem nCore_zero : (K (F := F)).nCore 0 = 2 := rfl
/-- with sixteen tiles each. -/
theorem nSub_zero : (K (F := F)).nSub 0 = 16 := rfl

/-- The launch semaphores are distinct and unscoped, and no buffer of a SparseCore is shared among its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the call's handshakes; the two pipelines' transfers; the tiles' own transfers -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL
/-- The pipelines' component: the left factor of the right factor. -/
def EP : Emb UPipe (MT nD τ sig (HIx 1) (Elt F) ℕ UU ℕ) :=
  (Emb.inl : Emb UPipe (UPipe × Counters)).trans embR

instance EP_landsIn : (EP : Emb UPipe 𝕄).LandsIn (upEmb : UEmb _ 𝕄) := by unfold EP; infer_instance

/-! ## The arrays of the SparseCore call -/

abbrev tLoc (d : Dev nD) : Loc nD τ sig := (SparseCore.T d).loc main_v2
abbrev sLoc (d : Dev nD) : Loc nD τ sig := (SparseCore.T d).loc main_arg1
abbrev oLoc (d : Dev nD) : Loc nD τ sig := (SparseCore.T d).loc main_v3

/-- The number of the tile: twice its subcore and its core. -/
abbrev wid (c : Fin 2) (i : Fin 16) : ℕ := 2 * i.val + c.val

/-- The subject numbers of a tile: 512 in a row. -/
def sSet (w : Fin 2 × Fin 16) : Finset S16384.Idx :=
  Finset.univ.filter fun x => (x 0).val / 512 = wid w.1 w.2
/-- The part of the gathered array that a tile writes: 256 rows and 32 columns. -/
def oSet (w : Fin 2 × Fin 16) : Finset S2048x128.Idx :=
  Finset.univ.filter fun x => (x 0).val / 256 = wid w.1 w.2 / 4 ∧ (x 1).val / 32 = wid w.1 w.2 % 4

/-- Two tiles' subject numbers are apart. -/
theorem sSet_disjoint : ∀ w ∈ (Finset.univ : Finset (Fin 2 × Fin 16)), ∀ w' ∈ (Finset.univ : Finset (Fin 2 × Fin 16)),
    w ≠ w' → Disjoint (sSet w) (sSet w') := by
  rintro ⟨c, i⟩ - ⟨c', i'⟩ - hne
  refine Finset.disjoint_left.mpr fun x hx hx' => hne ?_
  simp only [sSet, Finset.mem_filter, Finset.mem_univ, true_and, wid] at hx hx'
  ext1 <;> ext1 <;> simp only <;> omega
/-- Two tiles' parts of the gathered array are apart. -/
theorem oSet_disjoint : ∀ w ∈ (Finset.univ : Finset (Fin 2 × Fin 16)), ∀ w' ∈ (Finset.univ : Finset (Fin 2 × Fin 16)),
    w ≠ w' → Disjoint (oSet w) (oSet w') := by
  rintro ⟨c, i⟩ - ⟨c', i'⟩ - hne
  refine Finset.disjoint_left.mpr fun x hx hx' => hne ?_
  simp only [oSet, Finset.mem_filter, Finset.mem_univ, true_and, wid] at hx hx'
  ext1 <;> ext1 <;> simp only <;> omega

/-- Every subject number is of some tile. -/
theorem sSet_cover : (Finset.univ : Finset (Fin 2 × Fin 16)).biUnion sSet = Finset.univ := by
  refine Finset.eq_univ_of_forall fun x => Finset.mem_biUnion.mpr ?_
  have hx : (x 0).val < 16384 := (x 0).isLt
  refine ⟨(⟨(x 0).val / 512 % 2, by omega⟩, ⟨(x 0).val / 512 / 2, by omega⟩), Finset.mem_univ _, ?_⟩
  simp only [sSet, Finset.mem_filter, Finset.mem_univ, true_and, wid]
  omega
/-- Every entry of the gathered array is of some tile. -/
theorem oSet_cover : (Finset.univ : Finset (Fin 2 × Fin 16)).biUnion oSet = Finset.univ := by
  refine Finset.eq_univ_of_forall fun x => Finset.mem_biUnion.mpr ?_
  have hx : (x 0).val < 2048 := (x 0).isLt
  have hy : (x 1).val < 128 := (x 1).isLt
  refine ⟨(⟨((x 0).val / 256 * 4 + (x 1).val / 32) % 2, by omega⟩, ⟨((x 0).val / 256 * 4 + (x 1).val / 32) / 2, by omega⟩),
    Finset.mem_univ _, ?_⟩
  simp only [oSet, Finset.mem_filter, Finset.mem_univ, true_and, wid]
  omega

/-! ## Shares of the table -/

/-- The tile's number among thirty-two. -/
def tileEquiv : Fin 2 × Fin 16 ≃ Fin (31 + 1) := finProdFinEquiv

/-- The share of the table that a tile reads through. -/
abbrev tq (w : Fin 2 × Fin 16) : PosShare TreeShare := piece fullShare 31 (tileEquiv w)

/-- An array held whole is thirty-two shares of it, one for each tile. -/
theorem pointsTo_tq {ℓ : Loc nD τ sig} (f : Buf (Elt F) ℓ) :
    (ℓ ↦{fullShare} f : sProp 𝕄) = bigSep Finset.univ fun w : Fin 2 × Fin 16 => ℓ ↦{tq w} f :=
  (pointsTo_pieces Finset.univ f 31 fullShare).trans
    (bigSep_univ_equiv tileEquiv fun i : Fin (31 + 1) => (ℓ ↦{piece fullShare 31 i} f : sProp 𝕄))

end Cert.Proof.K

end
-- ==== Proof.TileValue.lean ====
/-
  What one tile of the SparseCore call computes, apart from the machine: the words the kernel computes its offsets from, a store
  of sixteen lanes read at an index, and the state of the tile's block of results after any number of stores.
-/
module

public import proofs.«01_k».proof.Proof.Setup

@[expose] public section

noncomputable section

namespace Cert.Proof.K

open Cert.KernelIdeal Cert.KernelIdeal.Gen
open Idealize.ShloMosaic

variable {F : FTy → Type}

/-! ## A store of all lanes, read at an index -/

/-- A fold of updates at one place: where every update that hits it carries `z`, and some update hits it or `z` was there
    before, `z` is there after. -/
theorem foldl_hit {α β ι : Type} (hit : ι → β → Prop) [∀ k y, Decidable (hit k y)] (v : ι → α) (y : β) (z : α) :
    ∀ (l : List ι) (g : β → α), (∀ k ∈ l, hit k y → v k = z) → ((∃ k ∈ l, hit k y) ∨ g y = z) →
      l.foldl (fun g k => fun j => if hit k j then v k else g j) g y = z
  | [], g, _, h => h.resolve_left (by rintro ⟨k, hk, _⟩; cases hk)
  | k :: l, g, hv, h => by
    refine foldl_hit hit v y z l _ (fun k' hk' => hv k' (List.mem_cons_of_mem _ hk')) ?_
    by_cases hk : hit k y
    · exact .inr ((if_pos hk).trans (hv k List.mem_cons_self hk))
    · rcases h with ⟨k', hk', hh⟩ | h
      · rcases List.mem_cons.mp hk' with rfl | hk'
        · exact absurd hh hk
        · exact .inl ⟨k', hk', hh⟩
      · exact .inr ((if_neg hk).trans h)

section StoreIdx
variable [FloatOps F] {s : Shape} {e : EltTy} {d : Fin 1 → ℕ}

/-- An unmasked store of lanes at an index `y`: `z`, if every lane stored at `y` carries `z`, and a lane is stored there or `z`
    was there before. -/
theorem storeIdx_at (f : Vec F s e) (idxs : Fin s.rank → IVec ⟨1, d⟩ 32) (v : Vec F ⟨1, d⟩ e)
    (h : ∀ a x, (idxs a x).toNat < s.size a) (y : s.Idx) (z : Elt F e)
    (hv : ∀ k : Fin (d 0), (∀ a, (y a).val = (idxs a (Shape.ofLane k)).toNat) → v (Shape.ofLane k) = z)
    (hz : (∃ k : Fin (d 0), ∀ a, (y a).val = (idxs a (Shape.ofLane k)).toNat) ∨ f y = z) :
    storeIdx f idxs v (fun _ => 1#1) false h y = z := by
  have := foldl_hit (fun (k : Fin (d 0)) (j : s.Idx) => ∀ a, (j a).val = (idxs a (Shape.ofLane k)).toNat)
    (fun k => v (Shape.ofLane k)) y z (List.finRange (d 0)) f (fun k _ => hv k)
    (hz.imp_left fun ⟨k, hk⟩ => ⟨k, List.mem_finRange k, hk⟩)
  rw [← this]
  unfold storeIdx
  refine congrFun (congrArg (fun u => List.foldl u f (List.finRange (d 0))) ?_) y
  funext g k
  show (if (1#1 : BitVec 1) = 1 then _ else _) = _
  rw [if_pos (show (1#1 : BitVec 1) = 1 by decide)]
  funext j
  by_cases hj : ∀ a : Fin s.rank, (j a).val = (idxs a (Shape.ofLane k)).toNat
  · exact (if_pos hj).trans (if_pos hj).symm
  · exact (if_neg hj).trans (if_neg hj).symm
end StoreIdx

/-! ## The words of the kernel -/

/-- The block of results that a tile writes: its row and its column. -/
theorem off3_eq : ∀ i : grid0.Coords, k0_off3 i
    = ![256 * ((2 * (i 1).val + (i 0).val) / 4), 32 * ((2 * (i 1).val + (i 0).val) % 4)] := by decide +kernel

/-- The loop runs 32 times. -/
theorem trips_eq : k0_t1_loop.trips = 32 := by decide +kernel

/-- The lane numbers. -/
abbrev lanes : IVec S16 32 := iota .scVector S16 32 [0] iota_S16_d0_w32_scVector

/-- Lane `x` holds the number `x`. -/
theorem lanes_at (x : S16.Idx) : (lanes x).toNat = (x 0).val := by
  have hx : (x 0).val < 16 := (x 0).isLt
  show (BitVec.ofNat 32 (0 * 16 + (x 0).val)).toNat = _
  rw [BitVec.toNat_ofNat]; omega

/-- The first column of the half block that trip `t` fills, as the kernel computes it. -/
def colWord (t : Fin k0_t1_loop.trips) : BitVec 32 :=
  let arg8 : BitVec 32 := Scf.iv 0#32 1#32 t
  let v50 : BitVec 32 := Scalar.divsi arg8 16#32
  let v55 : BitVec 32 := Scalar.subi (Scalar.extui (Scalar.cmpi .sgt arg8 0#32)) (Scalar.extui (Scalar.cmpi .slt arg8 0#32))
  let v60 : BitVec 32 := Scalar.subi (Scalar.extui (Scalar.cmpi .sgt 16#32 0#32)) (Scalar.extui (Scalar.cmpi .slt 16#32 0#32))
  let v61 : BitVec 1 := Scalar.cmpi .ne v55 v60
  let v63 : BitVec 1 := Scalar.cmpi .ne (Scalar.remsi arg8 16#32) 0#32
  Scalar.muli (Scalar.select (Scalar.andi v61 v63) (Scalar.subi v50 1#32) v50) 16#32

/-- The first sixteen trips fill the block from column zero, the others from column sixteen. -/
theorem colWord_eq : ∀ t : Fin k0_t1_loop.trips, (colWord t).toNat = 16 * (t.val / 16) := by decide +kernel

/-- The first store's column words, as the kernel computes them. -/
theorem pay7_eq (t : Fin k0_t1_loop.trips) : k0_pay7 0#32 1#32 t = addi (broadcast S16 0#32) (broadcast S16 (colWord t)) := rfl

/-- The column words of one store: `j` more than the first column. -/
theorem cols_at (j : ℕ) (hj : j < 6) (t : Fin k0_t1_loop.trips) (x : S16.Idx) :
    ((addi (broadcast S16 (BitVec.ofNat 32 j)) (broadcast S16 (colWord t)) : IVec S16 32) x).toNat = 16 * (t.val / 16) + j := by
  have ht : t.val < 32 := t.isLt.trans_eq trips_eq
  show (BitVec.ofNat 32 j + colWord t).toNat = _
  rw [BitVec.toNat_add, colWord_eq, BitVec.toNat_ofNat]; omega

/-- The first row that trip `t` fills. -/
theorem rowWord : ∀ t : Fin k0_t1_loop.trips, ((k0_pay6 (broadcast S16 0#32) 0#32 1#32 t) (ValueIdx.ix1 (0 : Fin 16))).toNat = 16 * (t.val % 16) := by
  decide +kernel

/-- The row words of a trip: sixteen rows from the first one that the trip fills. -/
theorem rows_at (t : Fin k0_t1_loop.trips) (x : S16.Idx) :
    ((k0_pay6 lanes 0#32 1#32 t) x).toNat = 16 * (t.val % 16) + (x 0).val := by
  have hx : (x 0).val < 16 := (x 0).isLt
  have h0 := rowWord t
  have h : k0_pay6 lanes 0#32 1#32 t x = lanes x + (k0_pay6 (broadcast S16 0#32) 0#32 1#32 t) (ValueIdx.ix1 (0 : Fin 16)) := by
    show lanes x + _ = lanes x + (0#32 + _)
    rw [BitVec.zero_add]; rfl
  rw [h, BitVec.toNat_add, h0, lanes_at]; omega

/-! ## The state of a tile's block -/

/-- Entry `j` of row `n` of the table; the two numbers taken modulo the table's extents. -/
def tabAt {α : Type} (tab : S64x128.Idx → α) (n j : ℕ) : α := tab (ValueIdx.ix2 (Fin.ofNat 64 n) (Fin.ofNat 128 j))

/-- The subject number of sample `n`, `n` taken modulo the number of samples. -/
def sidAt (sid : S16384.Idx → BitVec 32) (n : ℕ) : ℕ := (sid (ValueIdx.ix1 (Fin.ofNat 16384 n))).toNat

/-- The sample, among the tile's 512, whose entries lie at an index of the tile's block. -/
def smp (y : S256x32.Idx) : ℕ := 256 * ((y 1).val / 16) + (y 0).val

/-- The samples below `16 n` are done, and of the sixteen next the first `j` entries are. -/
def Done {α : Type} (tab : S64x128.Idx → α) (ids : ℕ → ℕ) (n j : ℕ) (f : S256x32.Idx → α) : Prop :=
  ∀ y : S256x32.Idx, (y 1).val % 16 < 6 → (smp y < 16 * n ∨ (smp y < 16 * (n + 1) ∧ (y 1).val % 16 < j)) →
    f y = tabAt tab (ids (smp y)) ((y 1).val % 16)

/-- At the start nothing is asked of the block. -/
theorem Done.zero {α : Type} (tab : S64x128.Idx → α) (ids : ℕ → ℕ) (f : S256x32.Idx → α) : Done tab ids 0 0 f := by
  intro y _ h; omega

/-- Six entries of sixteen samples are all that counts of them. -/
theorem Done.next {α : Type} {tab : S64x128.Idx → α} {ids : ℕ → ℕ} {n : ℕ} {f : S256x32.Idx → α} (h : Done tab ids n 6 f) :
    Done tab ids (n + 1) 0 f := by
  intro y hy hs; exact h y hy (by omega)

/-- One store: entry `j` of the sixteen samples of trip `n`. -/
theorem Done.store [FloatOps F] {tab : Vec F S64x128 .f32} {ids : ℕ → ℕ} {n j : ℕ} (hn : n < 32) (hj : j < 6) {f : Vec F S256x32 .f32}
    (h : Done tab ids n j f) (rows cols : IVec S16 32) (v : Vec F S16 .f32)
    (hr : ∀ x, (rows x).toNat = 16 * (n % 16) + (x 0).val) (hc : ∀ x, (cols x).toNat = 16 * (n / 16) + j)
    (hv : ∀ x, v x = tabAt tab (ids (16 * n + (x 0).val)) j) (hb : ∀ a x, (![rows, cols] a x).toNat < S256x32.size a) :
    Done tab ids n (j + 1) (storeIdx (s := S256x32) f ![rows, cols] v (fun _ => 1#1) false hb) := by
  intro y hy hs
  have hy0 : (y 0).val < 256 := (y 0).isLt
  have hy1 : (y 1).val < 32 := (y 1).isLt
  refine storeIdx_at f ![rows, cols] v hb y _ (fun k hk => ?_) ?_
  · have h0 := hk 0
    have h1 := hk 1
    have hk16 : k.val < 16 := k.isLt
    have e0 : (y 0).val = 16 * (n % 16) + k.val := h0.trans (hr _)
    have e1 : (y 1).val = 16 * (n / 16) + j := h1.trans (hc _)
    rw [hv]
    have : smp y = 16 * n + k.val := by unfold smp; omega
    rw [this, show (y 1).val % 16 = j by omega]; rfl
  · unfold smp at hs
    by_cases hm : (y 1).val % 16 = j ∧ 16 * n ≤ 256 * ((y 1).val / 16) + (y 0).val
    · left
      have hk : 256 * ((y 1).val / 16) + (y 0).val - 16 * n < 16 := by omega
      have hr' := hr (Shape.ofLane (d := ![16]) ⟨_, hk⟩)
      have hc' := hc (Shape.ofLane (d := ![16]) ⟨_, hk⟩)
      refine ⟨⟨_, hk⟩, fun a => ?_⟩
      · match a with
        | 0 => exact (show (y 0).val = 16 * (n % 16) + (256 * ((y 1).val / 16) + (y 0).val - 16 * n) by omega).trans hr'.symm
        | 1 => exact (show (y 1).val = 16 * (n / 16) + j by omega).trans hc'.symm
    · right
      exact h y hy (by unfold smp; omega)

end Cert.Proof.K

end
-- ==== Proof.Tile.lean ====
/-
  The task of one tile of the SparseCore call: the table and the tile's subject numbers fetched, the loop over groups of sixteen
  samples, the block of results written out.
-/
module

public import proofs.«01_k».proof.Proof.TileValue

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S64x128 EltTy.f32)
local notation "sV" => (Memref.whole Cert.KernelIdeal.main_arg1_scv : Memref Cert.KernelIdeal.sig Kind.scVector Space.hbm Cert.KernelIdeal.S16384 EltTy.i32)
local notation "oV" => (Memref.whole Cert.KernelIdeal.main_v3_scv : Memref Cert.KernelIdeal.sig Kind.scVector Space.hbm Cert.KernelIdeal.S2048x128 EltTy.f32)
local notation "tB" => (Memref.whole Cert.KernelIdeal.cc0_scratch0 : Memref Cert.KernelIdeal.sig Kind.scVector Space.vmem Cert.KernelIdeal.S64x128 EltTy.f32)
local notation "sB" => (Memref.whole Cert.KernelIdeal.cc0_scratch1 : Memref Cert.KernelIdeal.sig Kind.scVector Space.vmem Cert.KernelIdeal.S512 EltTy.i32)
local notation "oB" => (Memref.whole Cert.KernelIdeal.cc0_scratch2 : Memref Cert.KernelIdeal.sig Kind.scVector Space.vmem Cert.KernelIdeal.S256x32 EltTy.f32)

section Tile

variable [FloatOps F] (d : Dev nD) (L : grid0.Coords)

abbrev cV (L : grid0.Coords) : Fin τ.nSC := (L 0).castLE hcore0
abbrev jV (L : grid0.Coords) : Fin τ.nSub := (L 1).castLE hsub0
/-- The call's grid has two cores, -/
theorem bound_zero : grid0.bound 0 = 2 := rfl
/-- and sixteen subcores. -/
theorem bound_one : grid0.bound 1 = 16 := rfl
/-- The tile's core and subcore. -/
abbrev wL (L : grid0.Coords) : Fin 2 × Fin 16 := (Fin.cast bound_zero (L 0), Fin.cast bound_one (L 1))
/-- The tile's thread. -/
abbrev thr (d : Dev nD) (L : grid0.Coords) : Thread nD τ := V d (cV L) (jV L)

/-! ## The slices that the tile copies -/

abbrev sK (L : grid0.Coords) : Memref sig .scVector .hbm S512 .i32 :=
  (sV).slice (Rect.unit (s := S16384) (k0_off1 L) S512.size (k0_off1_inb L)) (fun _ => rfl)
abbrev oK (L : grid0.Coords) : Memref sig .scVector .hbm S256x32 .f32 :=
  (oV).slice (Rect.unit (s := S2048x128) (k0_off3 L) S256x32.size (k0_off3_inb L)) (fun _ => rfl)

omit [FloatOps F] in
/-- The slice of subject numbers that a tile copies is the tile's part. -/
theorem set_sK : (sK L).view.set = sSet (wL L) := by
  have h0 : (L 0).val < 2 := (L 0).isLt
  have h1 : (L 1).val < 16 := (L 1).isLt
  have e : (sK L).view.set = (Rect.unit (s := S16384) (k0_off1 L) S512.size (k0_off1_inb L)).set :=
    (View.set_slice (View.whole (main_arg1_scv : Ref sig .scVector)) _).trans Finset.map_refl
  rw [e]
  ext x
  have hx : (x 0).val < 16384 := (x 0).isLt
  refine Rect.mem_set_unit.trans ((Fin.forall_fin_one (p := fun a : Fin 1 => k0_off1 L a ≤ x a ∧ (x a).val < k0_off1 L a + S512.size a)).trans ?_)
  rw [k0_off1_eq]
  simp only [sSet, Finset.mem_filter, Finset.mem_univ, true_and, wid, wL, Fin.val_cast]
  show 1024 * (L 1).val + 512 * (L 0).val ≤ (x 0).val ∧ (x 0).val < 1024 * (L 1).val + 512 * (L 0).val + 512 ↔ _
  omega

omit [FloatOps F] in
/-- The slice of the result that a tile writes is the tile's part. -/
theorem set_oK : (oK L).view.set = oSet (wL L) := by
  have h0 : (L 0).val < 2 := (L 0).isLt
  have h1 : (L 1).val < 16 := (L 1).isLt
  have e : (oK L).view.set = (Rect.unit (s := S2048x128) (k0_off3 L) S256x32.size (k0_off3_inb L)).set :=
    (View.set_slice (View.whole (main_v3_scv : Ref sig .scVector)) _).trans Finset.map_refl
  rw [e]
  ext x
  have hx : (x 0).val < 2048 := (x 0).isLt
  have hy : (x 1).val < 128 := (x 1).isLt
  refine Rect.mem_set_unit.trans ((Fin.forall_fin_two (p := fun a : Fin 2 => k0_off3 L a ≤ x a ∧ (x a).val < k0_off3 L a + S256x32.size a)).trans ?_)
  rw [off3_eq]
  simp only [oSet, Finset.mem_filter, Finset.mem_univ, true_and, wid, wL, Fin.val_cast]
  show (256 * ((2 * (L 1).val + (L 0).val) / 4) ≤ (x 0).val ∧ (x 0).val < 256 * ((2 * (L 1).val + (L 0).val) / 4) + 256)
    ∧ (32 * ((2 * (L 1).val + (L 0).val) % 4) ≤ (x 1).val ∧ (x 1).val < 32 * ((2 * (L 1).val + (L 0).val) % 4) + 32) ↔ _
  omega

/-! ## The arrays as the tile addresses them -/

omit [FloatOps F] in
/-- The table as the tile addresses it. -/
theorem pts_tV (q : PosShare TreeShare) (f : Buf (Elt F) (tLoc d)) :
    ((tV).view.loc (thr d L) ↦{q} f : sProp 𝕄) = tLoc d ↦{q} f := rfl
omit [FloatOps F] in
/-- The tile's subject numbers as the tile addresses them. -/
theorem pts_sK (f : Buf (Elt F) (sLoc d)) :
    ((sK L).view.loc (thr d L) ↦[(sK L).view.set]{fullShare} f : sProp 𝕄) = sLoc d ↦[sSet (wL L)]{fullShare} f := by
  rw [set_sK]
omit [FloatOps F] in
/-- The tile's part of the result as the tile addresses it. -/
theorem pts_oK (f : Buf (Elt F) (oLoc d)) :
    ((oK L).view.loc (thr d L) ↦[(oK L).view.set]{fullShare} f : sProp 𝕄) = oLoc d ↦[oSet (wL L)]{fullShare} f := by
  rw [set_oK]
omit [FloatOps F] in
/-- The tile's copy of the table as the tile addresses it. -/
theorem pts_tB (f : Buf (Elt F) ((thr d L).loc cc0_scratch0)) :
    ((tB).view.loc (thr d L) ↦{fullShare} f : sProp 𝕄) = (thr d L).loc cc0_scratch0 ↦{fullShare} f := rfl
omit [FloatOps F] in
/-- The tile's copy of its subject numbers as the tile addresses it. -/
theorem pts_sB (f : Buf (Elt F) ((thr d L).loc cc0_scratch1)) :
    ((sB).view.loc (thr d L) ↦{fullShare} f : sProp 𝕄) = (thr d L).loc cc0_scratch1 ↦{fullShare} f := rfl
omit [FloatOps F] in
/-- The tile's block of results as the tile addresses it. -/
theorem pts_oB (f : Buf (Elt F) ((thr d L).loc cc0_scratch2)) :
    ((oB).view.loc (thr d L) ↦{fullShare} f : sProp 𝕄) = (thr d L).loc cc0_scratch2 ↦{fullShare} f := rfl

/-! ## The tile's own semaphores and buffers -/

abbrev cellA (d : Dev nD) (L : grid0.Coords) : GSem nD τ sig := (thr d L, .dma cc0_scoped0.sem)
abbrev cellB (d : Dev nD) (L : grid0.Coords) : GSem nD τ sig := (thr d L, .dma cc0_scoped1.sem)
abbrev cellC (d : Dev nD) (L : grid0.Coords) : GSem nD τ sig := (thr d L, .dma cc0_scoped2.sem)

omit [FloatOps F] in
/-- The tile's semaphores at zero: the three that its copies use, and the rest. -/
theorem ownSems0_thr :
    (ownSems0 (thr d L) : sProp 𝕄)
      = iprop(semVal (cellA d L) 0 ∗ semVal (cellB d L) 0 ∗ semVal (cellC d L) 0
          ∗ bigSep ((((ownCells (thr d L)).erase (cellA d L)).erase (cellB d L)).erase (cellC d L)) fun g => semVal g 0) := by
  have mem : ∀ (s : SemLoc sig), s.isScoped .scVector = true → ((thr d L, s) : GSem nD τ sig) ∈ ownCells (thr d L) :=
    fun s hs => mem_ownCells.mpr ⟨rfl, hs⟩
  have ne : ∀ (s s' : SemLoc sig), s ≠ s' → ((thr d L, s) : GSem nD τ sig) ≠ (thr d L, s') := fun s s' h e => h (Prod.mk.inj e).2
  unfold SparseCore.Cfg.ownSems0
  rw [SparseCore.bigSep_erase' (mem (.dma cc0_scoped0.sem) (by decide)),
    SparseCore.bigSep_erase' (Finset.mem_erase.mpr ⟨ne (.dma cc0_scoped1.sem) (.dma cc0_scoped0.sem) (by decide), mem (.dma cc0_scoped1.sem) (by decide)⟩),
    SparseCore.bigSep_erase' (Finset.mem_erase.mpr ⟨ne (.dma cc0_scoped2.sem) (.dma cc0_scoped1.sem) (by decide),
      Finset.mem_erase.mpr ⟨ne (.dma cc0_scoped2.sem) (.dma cc0_scoped0.sem) (by decide), mem (.dma cc0_scoped2.sem) (by decide)⟩⟩)]

/-- A scratch buffer as the device sees it. -/
abbrev scr (L : grid0.Coords) (b : Ref sig .scVector) : DevRef τ sig := (Proc.scVector (cV L) (jV L)).devRef b

omit [FloatOps F] in
/-- The tile's buffers: the three that the kernel uses, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (scr L cc0_scratch0)).erase (scr L cc0_scratch1)).erase (scr L cc0_scratch2))
              fun b => iprop(∃ f, ((d, b) : Loc nD τ sig) ↦{fullShare} f)) := by
  have mem : ∀ b : Ref sig .scVector, (scr L b).owner = .proc (Proc.scVector (cV L) (jV L)) → scr L b ∈ ownRefs (τ := τ) (.scVector (cV L) (jV L)) :=
    fun b hb => SparseCore.Cfg.mem_ownRefs_of_owner (p := Proc.scVector (cV L) (jV L)) hb
  have ne : ∀ b b' : Ref sig .scVector, b ≠ b' → scr L b ≠ scr L b' := fun b b' h e => h (Proc.devRef_injective _ e)
  unfold SparseCore.Cfg.ownBufs
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide),
      Finset.mem_erase.mpr ⟨ne cc0_scratch2 cc0_scratch0 (by decide), mem cc0_scratch2 rfl⟩⟩)]

/-! ## One entry of sixteen samples -/

/-- The block of results, in the state that `n` groups of samples and `j` entries of the next group leave it. -/
def blockAt (tab : Vec F S64x128 .f32) (ids : ℕ → ℕ) (n j : ℕ) : sProp 𝕄 :=
  iprop(∃ f : Vec F S256x32 .f32, ⌜Done tab ids n j f⌝ ∗ (oB).view.loc (thr d L) ↦{fullShare} f)

omit [FloatOps F] in
/-- Access to the whole block of results is access to the block. -/
theorem pts_oB_access (f : Buf (Elt F) ((thr d L).loc cc0_scratch2)) :
    (((oB).access (.whole S256x32)).loc (thr d L) ↦[((oB).access (.whole S256x32)).set]{fullShare} f : sProp 𝕄)
      = (oB).view.loc (thr d L) ↦{fullShare} f := by
  rw [show ((oB).access (.whole S256x32)).set = Finset.univ from Memref.set_access_whole (cc0_scratch2 : Ref sig .scVector)]

/-- Sixteen lanes read from the table at their subjects' rows and stored in the block: one more entry is done. -/
theorem wp_entry {α : Type} {tab : Vec F S64x128 .f32} {ids : ℕ → ℕ} {n j : ℕ} (hn : n < 32) (hj : j < 6)
    (rows cols sidv ent : IVec S16 32) (h1 : ∀ a x, (![sidv, ent] a x).toNat < S64x128.size a) (h2 : ∀ a x, (![rows, cols] a x).toNat < S256x32.size a)
    (hl : (tB).view.Loads) (hs : ((oB).access (.whole S256x32)).Stores Finset.univ)
    (hr : ∀ x, (rows x).toNat = 16 * (n % 16) + (x 0).val) (hc : ∀ x, (cols x).toNat = 16 * (n / 16) + j)
    (he : ∀ x, (ent x).toNat = j) (hi : ∀ x, (sidv x).toNat = ids (16 * n + (x 0).val))
    (k : Vec F S16 .f32 → PUnit → Prog (TpuEff nD τ sig (Elt F) Λ₀ (thr d L).2) α) (Q : α → sProp 𝕄) :
    iprop(((tB).view.loc (thr d L) ↦{fullShare} tab) ∗ blockAt d L tab ids n j
        ∗ (∀ v, (((tB).view.loc (thr d L) ↦{fullShare} tab) ∗ blockAt d L tab ids n (j + 1)) -∗
            wp frame (wpE (defs₀ (F := F)) 𝒱₀ (thr d L) none) Set.univ (k v ⟨⟩) Q))
      ⊢ wp frame (wpE (defs₀ (F := F)) 𝒱₀ (thr d L) none) Set.univ
          (SparseCore.vectorLoadIdx (s := S64x128) (e := .f32) (t := S16) tB ![sidv, ent] h1 hl >>= fun v => SparseCore.vectorStoreIdx (s := S256x32) (e := .f32) (d := ![16]) oB ![rows, cols] v (fun _ => 1#1) false h2 hs >>= k v) Q := by
  unfold blockAt
  iintro ⟨Ht, ⟨%f, %hf, Ho⟩, Hk⟩
  iapply (SparseCore.wp_vectorLoadIdx 𝒱₀ (thr d L) none Set.univ (base := tB) (S := Finset.univ) (q := fullShare) (Finset.subset_univ _)) $$ Ht
  iintro Ht
  ihave Ho' := (Entails.of_eq (pts_oB_access (F := F) d L _).symm) $$ Ho
  iapply (SparseCore.wp_vectorStoreIdx 𝒱₀ (thr d L) none Set.univ (base := oB)) $$ Ho'
  iintro Ho
  ihave Ho' := (Entails.of_eq (pts_oB_access (F := F) d L _)) $$ Ho
  iapply Hk
  isplitl [Ht]; · iexact Ht
  iexists _; isplitr
  swap; · iexact Ho'
  ipureintro
  rw [Memref.write_access_whole_univ, Memref.read_access_whole, Memref.read_access_whole]
  refine hf.store hn hj rows cols _ hr hc (fun x => ?_) h2
  refine congrArg tab (funext fun a => ?_)
  match a with
  | 0 => exact Fin.ext (by
      show (sidv x).toNat = (ids (16 * n + (x 0).val)) % 64
      rw [← hi x]; exact (Nat.mod_eq_of_lt (h1 0 x)).symm)
  | 1 => exact Fin.ext (by
      show (ent x).toNat = j % 128
      rw [he x]; omega)

omit [FloatOps F] in
/-- The two spellings of a sequence of programs. -/
theorem bind_def.{u} {E : Type → Type u} {α β : Type} (x : Prog E α) (k : α → Prog E β) : x.bind k = x >>= k := rfl

/-- The same behind the two checks that the kernel makes of the words it indexes by. -/
theorem wp_checked {α : Type} {tab : Vec F S64x128 .f32} {ids : ℕ → ℕ} {n j : ℕ} (hn : n < 32) (hj : j < 6)
    {rows cols sidv ent : IVec S16 32} {P1 P2 : Prop} {d1 : Decidable P1} {d2 : Decidable P2}
    {h1 : PLift P1 → ∀ a x, (![sidv, ent] a x).toNat < S64x128.size a} {h2 : PLift P2 → ∀ a x, (![rows, cols] a x).toNat < S256x32.size a}
    {hl : (tB).view.Loads} {hs : ((oB).access (.whole S256x32)).Stores Finset.univ}
    (g1 : (∀ a x, (![sidv, ent] a x).toNat < S64x128.size a) → P1) (g2 : (∀ a x, (![rows, cols] a x).toNat < S256x32.size a) → P2)
    (hr : ∀ x, (rows x).toNat = 16 * (n % 16) + (x 0).val) (hc : ∀ x, (cols x).toNat = 16 * (n / 16) + j)
    (he : ∀ x, (ent x).toNat = j) (hi : ∀ x, (sidv x).toNat = ids (16 * n + (x 0).val)) (hlt : ∀ x, (sidv x).toNat < 64)
    {k : PLift P2 → PLift P1 → Vec F S16 .f32 → PUnit → Prog (TpuEff nD τ sig (Elt F) Λ₀ (thr d L).2) α} {Q : α → sProp 𝕄} :
    iprop(((tB).view.loc (thr d L) ↦{fullShare} tab) ∗ blockAt d L tab ids n j
        ∗ (∀ p2 p1 v, (((tB).view.loc (thr d L) ↦{fullShare} tab) ∗ blockAt d L tab ids n (j + 1)) -∗
            wp frame (wpE (defs₀ (F := F)) 𝒱₀ (thr d L) none) Set.univ (k p2 p1 v ⟨⟩) Q))
      ⊢ wp frame (wpE (defs₀ (F := F)) 𝒱₀ (thr d L) none) Set.univ
          (.op (TpuEff.assume P2 d2) fun p2 => .op (TpuEff.assume P1 d1) fun p1 =>
            SparseCore.vectorLoadIdx (s := S64x128) (e := .f32) (t := S16) tB ![sidv, ent] (h1 p1) hl >>= fun v =>
              SparseCore.vectorStoreIdx (s := S256x32) (e := .f32) (d := ![16]) oB ![rows, cols] v (fun _ => 1#1) false (h2 p2) hs >>= k p2 p1 v) Q := by
  have b1 : ∀ a x, (![sidv, ent] a x).toNat < S64x128.size a := fun a x => by
    match a with
    | 0 => exact hlt x
    | 1 => exact (he x).trans_lt (show j < 128 by omega)
  have b2 : ∀ a x, (![rows, cols] a x).toNat < S256x32.size a := fun a x => by
    have hx : (x 0).val < 16 := (x 0).isLt
    match a with
    | 0 => exact (hr x).trans_lt (show 16 * (n % 16) + (x 0).val < 256 by omega)
    | 1 => exact (hc x).trans_lt (show 16 * (n / 16) + j < 32 by omega)
  rw [wp_assume_of _ _ _ _ (g2 b2), wp_assume_of _ _ _ _ (g1 b1)]
  iintro ⟨Ht, Hb, Hk⟩
  iapply (wp_entry d L hn hj rows cols sidv ent _ _ hl hs hr hc he hi (k ⟨g2 b2⟩ ⟨g1 b1⟩) Q)
  isplitl [Ht]; · iexact Ht
  isplitl [Hb]; · iexact Hb
  iapply Hk

/-! ## One group of sixteen samples -/

set_option cleanup.letToHave false in
/-- One trip of the loop: the six entries of sixteen samples. -/
theorem wp_trip {tab : Vec F S64x128 .f32} {idv : Vec F S512 .i32} {ids : ℕ → ℕ} (hid : ∀ x, (idv x).toNat = ids (x 0).val)
    (hlt : ∀ x, (idv x).toNat < 64) (t : Fin k0_t1_loop.trips) :
    iprop(((tB).view.loc (thr d L) ↦{fullShare} tab) ∗ ((sB).view.loc (thr d L) ↦{fullShare} idv) ∗ blockAt d L tab ids t.val 0)
      ⊢ wp frame (wpE (defs₀ (F := F)) 𝒱₀ (thr d L) none) Set.univ
          (k0_t1_body L tV (Memref.isWhole_whole _) sV (Memref.isWhole_whole _) oV (Memref.isWhole_whole _)
            tB (Memref.isWhole_whole _) sB (Memref.isWhole_whole _) oB (Memref.isWhole_whole _) cc0_scoped0 cc0_scoped1 cc0_scoped2 lanes 0#32 t ⟨⟩)
          fun _ => iprop(((tB).view.loc (thr d L) ↦{fullShare} tab) ∗ ((sB).view.loc (thr d L) ↦{fullShare} idv) ∗ blockAt d L tab ids (t.val + 1) 0) := by
  have ht : t.val < 32 := t.isLt.trans_eq trips_eq
  unfold k0_t1_body
  simp only [k0_part1_eq_skeleton]
  unfold k0_part1_skel
  simp only [bind_assoc, pure_bind, Prog.bind_lift]
  iintro ⟨Ht, Hs, Hb⟩
  iapply (wp_load 𝒱₀ (thr d L) none Set.univ (m := sB) (S := Finset.univ) (Finset.subset_univ _)) $$ Hs
  iintro Hs
  have hi : ∀ x, ((sB).view.readAt (Elt F) (Rect.unit (s := S512) (k0_off2 t) S16.size (k0_off2_inb t)).toLoadRect idv x).toNat
      = ids (16 * t.val + (x 0).val) := fun x => by
    refine (hid _).trans (congrArg ids ?_)
    show k0_off2 t 0 + 1 * (x 0).val = _
    rw [one_mul]
    exact congrArg (· + (x 0).val) (congrFun (k0_off2_eq t) 0)
  have hl : ∀ x, ((sB).view.readAt (Elt F) (Rect.unit (s := S512) (k0_off2 t) S16.size (k0_off2_inb t)).toLoadRect idv x).toNat < 64 :=
    fun x => hlt _
  generalize (sB).view.readAt (Elt F) (Rect.unit (s := S512) (k0_off2 t) S16.size (k0_off2_inb t)).toLoadRect idv = sidv at hi hl ⊢
  have hcol : ∀ j < 6, ∀ x, ((addi (broadcast S16 (BitVec.ofNat 32 j)) (broadcast S16 (colWord t)) : IVec S16 32) x).toNat
      = 16 * (t.val / 16) + j := fun j hj => cols_at j hj t
  have hent : ∀ j < 6, ∀ x : S16.Idx, ((broadcast S16 (BitVec.ofNat 32 j) : IVec S16 32) x).toNat = j := fun j hj x =>
    (BitVec.toNat_ofNat j 32).trans (Nat.mod_eq_of_lt (by omega))
  have hrow := rows_at t
  rw [pay7_eq]
  have hcw := colWord.eq_1 t
  simp only [bind_def, bind_assoc, pure_bind, Prog.bind_op] at hcw ⊢
  rw [← hcw]
  clear hcw
  generalize colWord t = cw at hcol ⊢
  generalize k0_pay6 lanes 0#32 1#32 t = rows at hrow ⊢
  iapply (wp_checked (j := 0) d L (h1 := fun p => p.down) (h2 := fun p => p.down) ht (by omega) id id hrow (hcol 0 (by omega)) (hent 0 (by omega)) hi hl)
  isplitl [Ht]; · iexact Ht
  isplitl [Hb]; · iexact Hb
  iintro %_ %_ %_ ⟨Ht, Hb⟩
  iapply (wp_checked (j := 1) d L (h1 := fun p => p.down) (h2 := fun p => p.down) ht (by omega) id id hrow (hcol 1 (by omega)) (hent 1 (by omega)) hi hl)
  isplitl [Ht]; · iexact Ht
  isplitl [Hb]; · iexact Hb
  iintro %_ %_ %_ ⟨Ht, Hb⟩
  iapply (wp_checked (j := 2) d L (h1 := fun p => p.down) (h2 := fun p => p.down) ht (by omega) id id hrow (hcol 2 (by omega)) (hent 2 (by omega)) hi hl)
  isplitl [Ht]; · iexact Ht
  isplitl [Hb]; · iexact Hb
  iintro %_ %_ %_ ⟨Ht, Hb⟩
  iapply (wp_checked (j := 3) d L (h1 := fun p => p.down) (h2 := fun p => p.down) ht (by omega) id id hrow (hcol 3 (by omega)) (hent 3 (by omega)) hi hl)
  isplitl [Ht]; · iexact Ht
  isplitl [Hb]; · iexact Hb
  iintro %_ %_ %_ ⟨Ht, Hb⟩
  iapply (wp_checked (j := 4) d L (h1 := fun p => p.down) (h2 := fun p => p.down) ht (by omega) id id hrow (hcol 4 (by omega)) (hent 4 (by omega)) hi hl)
  isplitl [Ht]; · iexact Ht
  isplitl [Hb]; · iexact Hb
  iintro %_ %_ %_ ⟨Ht, Hb⟩
  iapply (wp_checked (j := 5) d L (h1 := fun p => p.down) (h2 := fun p => p.down) ht (by omega) id id hrow (hcol 5 (by omega)) (hent 5 (by omega)) hi hl)
  isplitl [Ht]; · iexact Ht
  isplitl [Hb]; · iexact Hb
  iintro %_ %_ %_ ⟨Ht, Hb⟩
  rw [wp_pure]; imodintro
  isplitl [Ht]; · iexact Ht
  isplitl [Hs]; · iexact Hs
  unfold blockAt
  icases Hb with ⟨%f, %hf, Hb⟩
  iexists f; isplitr
  · ipureintro; exact hf.next
  · iexact Hb

end Tile

end Cert.Proof.K

end
-- ==== Proof.TileBody.lean ====
/-
  The whole task of one tile of the SparseCore call: what it is given, what it hands back.
-/
module

public import proofs.«01_k».proof.Proof.Tile

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S64x128 EltTy.f32)
local notation "sV" => (Memref.whole Cert.KernelIdeal.main_arg1_scv : Memref Cert.KernelIdeal.sig Kind.scVector Space.hbm Cert.KernelIdeal.S16384 EltTy.i32)
local notation "oV" => (Memref.whole Cert.KernelIdeal.main_v3_scv : Memref Cert.KernelIdeal.sig Kind.scVector Space.hbm Cert.KernelIdeal.S2048x128 EltTy.f32)
local notation "tB" => (Memref.whole Cert.KernelIdeal.cc0_scratch0 : Memref Cert.KernelIdeal.sig Kind.scVector Space.vmem Cert.KernelIdeal.S64x128 EltTy.f32)
local notation "sB" => (Memref.whole Cert.KernelIdeal.cc0_scratch1 : Memref Cert.KernelIdeal.sig Kind.scVector Space.vmem Cert.KernelIdeal.S512 EltTy.i32)
local notation "oB" => (Memref.whole Cert.KernelIdeal.cc0_scratch2 : Memref Cert.KernelIdeal.sig Kind.scVector Space.vmem Cert.KernelIdeal.S256x32 EltTy.f32)

section TileBody

variable [FloatOps F] (d : Dev nD) (L : grid0.Coords)

/-- An array of gathered entries is right on the elements `S`: where a column is one of the first six of its sixteen, it holds the
    entry of the sample's subject. -/
def Good {α : Type} (tab : S64x128.Idx → α) (sid : S16384.Idx → BitVec 32) (S : Finset S2048x128.Idx) (f : S2048x128.Idx → α) : Prop :=
  ∀ y ∈ S, (y 1).val % 16 < 6 →
    f y = tabAt tab (sidAt sid (2048 * ((y 0).val / 256) + 256 * ((y 1).val / 16) + (y 0).val % 256)) ((y 1).val % 16)

/-- What a tile is given: its share of the table, its subject numbers, its part of the result. -/
def tileIn (tab : Buf (Elt F) (tLoc d)) (sid : Buf (Elt F) (sLoc d)) (f : Buf (Elt F) (oLoc d)) (w : Fin 2 × Fin 16) : sProp 𝕄 :=
  iprop((tLoc d ↦{tq w} tab) ∗ (sLoc d ↦[sSet w]{fullShare} sid) ∗ (oLoc d ↦[oSet w]{fullShare} f))

/-- What a tile hands back: the same, its part of the result right. -/
def tileOut (tab : Buf (Elt F) (tLoc d)) (sid : Buf (Elt F) (sLoc d)) (w : Fin 2 × Fin 16) : sProp 𝕄 :=
  iprop((tLoc d ↦{tq w} tab) ∗ (sLoc d ↦[sSet w]{fullShare} sid) ∗ ∃ f, ⌜Good tab sid (oSet w) f⌝ ∗ (oLoc d ↦[oSet w]{fullShare} f))

/-- The subject numbers that a tile fetches. -/
def tileIds (sid : Buf (Elt F) (sLoc d)) : Vec F S512 .i32 := (sK L).view.read (Elt F) sid

omit [FloatOps F] in
/-- The subject numbers that a tile fetches are those of its 512 samples. -/
theorem tileIds_toNat (sid : Buf (Elt F) (sLoc d)) (x : S512.Idx) :
    (tileIds d L sid x).toNat = sidAt sid (512 * wid (wL L).1 (wL L).2 + (x 0).val) := by
  have h0 : (L 0).val < 2 := (L 0).isLt
  have h1 : (L 1).val < 16 := (L 1).isLt
  have hx : (x 0).val < 512 := (x 0).isLt
  refine congrArg (fun y => (sid y : BitVec 32).toNat) (funext fun a => ?_)
  match a with
  | 0 =>
    refine Fin.ext ?_
    show k0_off1 L 0 + 1 * (x 0).val = (512 * wid (wL L).1 (wL L).2 + (x 0).val) % 16384
    have h := congrFun (k0_off1_eq L) 0
    have h' : k0_off1 L 0 = 1024 * (L 1).val + 512 * (L 0).val := h
    rw [h']
    simp only [wid, wL, Fin.val_cast]
    omega

omit [FloatOps F] in
/-- The tile's part of the result, written whole, holds the block that was written. -/
theorem out_at (fo : Buf (Elt F) (oLoc d)) (p : Vec F S256x32 .f32) (x : S256x32.Idx) :
    (oK L).view.writes (Elt F) fo [⟨Rect.whole S256x32, p⟩] ((oK L).view.emb x) = p x := by
  have h := View.write_emb_of_mem (v := (oK L).view.slice (Rect.whole S256x32)) (Val := Elt F) fo p (Finset.mem_univ x)
  have e : ((oK L).view.slice (Rect.whole S256x32)).emb x = (oK L).view.emb x := by
    refine congrArg (oK L).view.emb (funext fun a => Fin.ext ?_)
    show 0 + 1 * (x a).val = (x a).val
    omega
  rw [e] at h
  exact h

omit [FloatOps F] in
/-- A finished block, written out, is right on the tile's part of the result. -/
theorem good_out {tab : Buf (Elt F) (tLoc d)} (sid : Buf (Elt F) (sLoc d)) (fo : Buf (Elt F) (oLoc d)) {f : Vec F S256x32 .f32}
    (hf : Done tab (fun p => sidAt sid (512 * wid (wL L).1 (wL L).2 + p)) k0_t1_loop.trips 0 f) :
    Good tab sid (oSet (wL L)) ((oK L).view.writes (Elt F) fo [⟨Rect.whole S256x32, f⟩]) := by
  intro y hy hc
  rw [← set_oK] at hy
  obtain ⟨x, -, rfl⟩ := Finset.mem_map.mp hy
  rw [out_at]
  have h0 : (L 0).val < 2 := (L 0).isLt
  have h1 : (L 1).val < 16 := (L 1).isLt
  have hx0 : (x 0).val < 256 := (x 0).isLt
  have hx1 : (x 1).val < 32 := (x 1).isLt
  have e0 : ((oK L).view.emb x 0).val = 256 * ((2 * (L 1).val + (L 0).val) / 4) + (x 0).val := by
    refine (show _ = k0_off3 L 0 + 1 * (x 0).val from rfl).trans ?_
    rw [one_mul]; exact congrArg (· + (x 0).val) (congrFun (off3_eq L) 0)
  have e1 : ((oK L).view.emb x 1).val = 32 * ((2 * (L 1).val + (L 0).val) % 4) + (x 1).val := by
    refine (show _ = k0_off3 L 1 + 1 * (x 1).val from rfl).trans ?_
    rw [one_mul]; exact congrArg (· + (x 1).val) (congrFun (off3_eq L) 1)
  rw [e1] at hc ⊢
  rw [e0]
  have hc' : (x 1).val % 16 < 6 := by omega
  have hs : smp x < 512 := by unfold smp; omega
  refine (hf x hc' (.inl (hs.trans_eq (by rw [trips_eq])))).trans ?_
  have a1 : 512 * wid (wL L).1 (wL L).2 + smp x
      = 2048 * ((256 * ((2 * (L 1).val + (L 0).val) / 4) + (x 0).val) / 256)
        + 256 * ((32 * ((2 * (L 1).val + (L 0).val) % 4) + (x 1).val) / 16)
        + (256 * ((2 * (L 1).val + (L 0).val) / 4) + (x 0).val) % 256 := by
    simp only [wid, wL, Fin.val_cast, smp]; omega
  have a2 : (x 1).val % 16 = (32 * ((2 * (L 1).val + (L 0).val) % 4) + (x 1).val) % 16 := by omega
  show tabAt tab (sidAt sid _) _ = _
  rw [a1, a2]

/-- Before trip `n`: the table and the subject numbers in the tile's memory, `n` groups of samples done. -/
def inv (tab : Vec F S64x128 .f32) (idv : Vec F S512 .i32) (ids : ℕ → ℕ) (n : ℕ) (_ : PUnit) : sProp 𝕄 :=
  iprop(((tB).view.loc (thr d L) ↦{fullShare} tab) ∗ ((sB).view.loc (thr d L) ↦{fullShare} idv) ∗ blockAt d L tab ids n 0)

/-- The whole task of a tile. -/
theorem tile_body (hF : (K (F := F)).Facts) (tab : Buf (Elt F) (tLoc d)) (sid : Buf (Elt F) (sLoc d)) (fo : Buf (Elt F) (oLoc d))
    (hpre : ∀ x, (sid x).toNat < 64) (O : CellTallies nD τ sig (HIx 1)) (W : Waits sig (HIx 1)) (hO : ∀ g, O g none = 0) :
    iprop(levAts (K (F := F)).L (K (F := F)).lev ∗ emp ∗ tileIn d tab sid fo (wL L)
        ∗ scopedBufs (thr d L) ∗ scopedSems0 (thr d L) ∗ owes (thr d L) O W)
      ⊢ wp frame (wpE (defs₀ (F := F)) 𝒱₀ (thr d L) none) Set.univ
          (cc0__sc_gather L tV (Memref.isWhole_whole _) sV (Memref.isWhole_whole _) oV (Memref.isWhole_whole _)
            tB (Memref.isWhole_whole _) sB (Memref.isWhole_whole _) oB (Memref.isWhole_whole _) cc0_scoped0 cc0_scoped1 cc0_scoped2)
          fun _ => iprop(tileOut d tab sid (wL L) ∗ scopedBufs (thr d L) ∗ scopedSems0 (thr d L)
            ∗ ∃ W', ⌜∀ p ∈ W', p ∈ W ∨ p.2 = none⌝ ∗ owes (thr d L) O W') := by
  simp only [cc0__sc_gather_eq_skeleton]; unfold cc0__sc_gather_skel
  simp only [k0_part2_eq_skeleton]; unfold k0_part2_skel
  unfold tileIn tileOut
  rw [(K (F := F)).scopedBufs_V hF d (cV L) (jV L), SparseCore.Cfg.scopedSems0_V (Val := Elt F) d (cV L) (jV L), ownSems0_thr, ownBufs_thr]
  iintro ⟨#Hlv, -, ⟨Ht, Hs, Ho⟩, ⟨⟨%ft, Hft⟩, ⟨%fs, Hfs⟩, ⟨%fb, Hfb⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Ht' := (Entails.of_eq (pts_tV (F := F) d L _ _).symm) $$ Ht
  ihave Hs' := (Entails.of_eq (pts_sK (F := F) d L _).symm) $$ Hs
  ihave Ho' := (Entails.of_eq (pts_oK (F := F) d L _).symm) $$ Ho
  ihave Htb := (Entails.of_eq (pts_tB (F := F) d L _).symm) $$ Hft
  ihave Hsb := (Entails.of_eq (pts_sB (F := F) d L _).symm) $$ Hfs
  ihave Hob := (Entails.of_eq (pts_oB (F := F) d L _).symm) $$ Hfb
  sl_exec
  have etab : View.write (Elt F) (tB).view ft (tile_body.sl.dma0 d tab) Finset.univ = tab := by
    unfold tile_body.sl.dma0
    exact View.write_whole_univ _ _ _
  have eid : View.write (Elt F) (sB).view fs (tile_body.sl.dma0_1 d L sid) Finset.univ = tileIds d L sid := by
    unfold tile_body.sl.dma0_1
    exact View.write_whole_univ _ _ _
  rw [etab, eid]
  sl_for (inv d L tab (tileIds d L sid) fun p => sidAt sid (512 * wid (wL L).1 (wL L).2 + p)) $$ [Htb Hsb Hob]
  case region =>
    intro k _
    exact wp_trip d L (tileIds_toNat d L sid) (fun x => hpre _) k
  · unfold inv blockAt
    isplitl [Htb]; · iexact Htb
    isplitl [Hsb]; · iexact Hsb
    iexists fb; isplitr
    · ipureintro; exact Done.zero _ _ _
    · iexact Hob
  iintro %_ HI
  unfold inv blockAt
  icases HI with ⟨Htb, Hsb, %f, %hf, Hob⟩
  sl_exec
  sl_step
  isplitl [Ht' Hs' Ho']
  · isplitl [Ht']; · iexact Ht'
    isplitl [Hs']; · iapply (Entails.of_eq (pts_sK (F := F) d L _)); iexact Hs'
    iexists _; isplitr
    swap; · iapply (Entails.of_eq (pts_oK (F := F) d L _)); iexact Ho'
    ipureintro
    exact good_out d L sid fo hf
  isplitl [Htb Hsb Hob Hbufs]
  · isplitl [Htb]; · iexists _; iexact Htb
    isplitl [Hsb]; · iexists _; iexact Hsb
    isplitl [Hob]; · iexists _; iexact Hob
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end TileBody

end Cert.Proof.K

end
-- ==== Proof.Obligation.lean ====
/-
  What the SparseCore call carries between the TensorCore, the two sequencers and the thirty-two tiles: every tile its share of the
  table, its subject numbers and its part of the result.
-/
module

public import proofs.«01_k».proof.Proof.TileBody

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S64x128 EltTy.f32)
local notation "sV" => (Memref.whole Cert.KernelIdeal.main_arg1_scv : Memref Cert.KernelIdeal.sig Kind.scVector Space.hbm Cert.KernelIdeal.S16384 EltTy.i32)
local notation "oV" => (Memref.whole Cert.KernelIdeal.main_v3_scv : Memref Cert.KernelIdeal.sig Kind.scVector Space.hbm Cert.KernelIdeal.S2048x128 EltTy.f32)
local notation "tB" => (Memref.whole Cert.KernelIdeal.cc0_scratch0 : Memref Cert.KernelIdeal.sig Kind.scVector Space.vmem Cert.KernelIdeal.S64x128 EltTy.f32)
local notation "sB" => (Memref.whole Cert.KernelIdeal.cc0_scratch1 : Memref Cert.KernelIdeal.sig Kind.scVector Space.vmem Cert.KernelIdeal.S512 EltTy.i32)
local notation "oB" => (Memref.whole Cert.KernelIdeal.cc0_scratch2 : Memref Cert.KernelIdeal.sig Kind.scVector Space.vmem Cert.KernelIdeal.S256x32 EltTy.f32)

variable [FloatOps F] (m : (ℓ : Loc nD τ sig) → Buf (Elt F) ℓ) (tab : ∀ d : Dev nD, Buf (Elt F) (tLoc d))

/-- Every subject number in the memory at launch names a row of the table. -/
def PreOK : Prop := ∀ (d : Dev nD) (x : S16384.Idx), (m (sLoc d) x : BitVec 32).toNat < 64

/-! ## What the handshakes carry -/

/-- The tile that the call's core `c` and task `i` name. -/
abbrev tileOf (c : Fin ((K (F := F)).nCore 0)) (i : Fin ((K (F := F)).nSub 0)) : Fin 2 × Fin 16 :=
  (Fin.cast nCore_zero c, Fin.cast nSub_zero i)

/-- A tile's operands at the call. -/
def goAt (d : Dev nD) (w : Fin 2 × Fin 16) : sProp 𝕄 := tileIn d (tab d) (m (sLoc d)) (m (oLoc d)) w
/-- What the tile hands back. -/
def tdAt (d : Dev nD) (w : Fin 2 × Fin 16) : sProp 𝕄 := tileOut d (tab d) (m (sLoc d)) w

instance goAt_storable (d : Dev nD) (w : Fin 2 × Fin 16) : BI.Storable (upEmb : UEmb _ 𝕄) (goAt m tab d w) := by
  unfold goAt tileIn; infer_instance
instance tdAt_storable (d : Dev nD) (w : Fin 2 × Fin 16) : BI.Storable (upEmb : UEmb _ 𝕄) (tdAt m tab d w) := by
  unfold tdAt tileOut; infer_instance

/-- A core is handed its sixteen tiles' operands side by side, and hands their results back so. -/
def P : (K (F := F)).Pay (nD := nD) (Val := Elt F) (Name := ℕ) (U := UU) where
  st := fun q d c => match q with
    | 0 => bigSep Finset.univ fun i : Fin ((K (F := F)).nSub 0) => goAt m tab d (tileOf c i)
  dn := fun q d c => match q with
    | 0 => bigSep Finset.univ fun i : Fin ((K (F := F)).nSub 0) => tdAt m tab d (tileOf c i)
  go := fun q d c i => match q with | 0 => goAt m tab d (tileOf c i)
  td := fun q d c i => match q with | 0 => tdAt m tab d (tileOf c i)
  x := fun _ _ => iprop(emp)

instance P_storable : (P (F := F) m tab).IsStorable where
  st q d c := match q with
    | 0 => (inferInstance : BI.Storable (upEmb : UEmb _ 𝕄) (bigSep Finset.univ fun i : Fin ((K (F := F)).nSub 0) => goAt m tab d (tileOf c i)))
  dn q d c := match q with
    | 0 => (inferInstance : BI.Storable (upEmb : UEmb _ 𝕄) (bigSep Finset.univ fun i : Fin ((K (F := F)).nSub 0) => tdAt m tab d (tileOf c i)))
  go q d c i := match q with | 0 => goAt_storable m tab d (tileOf c i)
  td q d c i := match q with | 0 => tdAt_storable m tab d (tileOf c i)

/-! ## The obligation of a tile -/

/-- The coordinates of a tile in the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- A tile's task is the gathering kernel at the tile's coordinates. -/
theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) sV (Memref.isWhole_whole _) oV (Memref.isWhole_whole _)
          tB (Memref.isWhole_whole _) sB (Memref.isWhole_whole _) oB (Memref.isWhole_whole _) cc0_scoped0 cc0_scoped1 cc0_scoped2) ⟨⟩ c s := rfl

omit [FloatOps F] in
/-- A tile that waited only on its own transfers satisfies what the call asks of its waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, given its subject numbers, its part of the result and a share of the table, does what the call asks of it. -/
theorem tileObl (hF : (K (F := F)).Facts) (hpre : PreOK m) : (K (F := F)).TileObl (D (F := F)) 𝒱 (P m tab) v₀ 0 := by
  intro d c i O W hO _ _
  simp only [show (P m tab).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tab d) (m (sLoc d)) (m (oLoc d)) (hpre d) O W hO).trans
    (wp_mono frame _ _ fun _ => obl_post)

/-- What a SparseCore is given and gives back is, as it stands, its tiles' parts. -/
theorem vecSplit : (K (F := F)).VecSplit' (P m tab) 0 := by
  intro d c
  show (bigSep Finset.univ fun i : Fin ((K (F := F)).nSub 0) => goAt m tab d (tileOf c i)) ⊢ |={Set.univ}=> iprop(
      (bigSep Finset.univ fun i : Fin ((K (F := F)).nSub 0) => goAt m tab d (tileOf c i))
      ∗ ((bigSep Finset.univ fun i : Fin ((K (F := F)).nSub 0) => tdAt m tab d (tileOf c i))
          -∗ bigSep Finset.univ fun i : Fin ((K (F := F)).nSub 0) => tdAt m tab d (tileOf c i)))
  iintro H; imodintro
  isplitl [H]; · iexact H
  iintro H; iexact H

/-! ## The arrays cut among the tiles, and put together -/

omit [FloatOps F] in
/-- All tiles of all cores are all pairs of a core and a subcore. -/
theorem bigSep_tiles (Φ : Fin 2 × Fin 16 → sProp 𝕄) :
    (bigSep Finset.univ fun c : Fin ((K (F := F)).nCore 0) => bigSep Finset.univ fun i : Fin ((K (F := F)).nSub 0) => Φ (tileOf c i))
      = bigSep Finset.univ Φ :=
  (bigSep_univ_prod Φ).symm

omit [FloatOps F] in
/-- The subject numbers whole are the tiles' parts together. -/
theorem sPts_tiles (d : Dev nD) (f : Buf (Elt F) (sLoc d)) :
    (sLoc d ↦{fullShare} f : sProp 𝕄) = bigSep Finset.univ fun w => sLoc d ↦[sSet w]{fullShare} f := by
  rw [← pointsTo_biUnion Finset.univ (ℓ := sLoc d) sSet sSet_disjoint, sSet_cover]
omit [FloatOps F] in
/-- The gathered array whole is the tiles' parts together. -/
theorem oPts_tiles (d : Dev nD) (f : Buf (Elt F) (oLoc d)) :
    (oLoc d ↦{fullShare} f : sProp 𝕄) = bigSep Finset.univ fun w => oLoc d ↦[oSet w]{fullShare} f := by
  rw [← pointsTo_biUnion Finset.univ (ℓ := oLoc d) oSet oSet_disjoint, oSet_cover]

/-- The three arrays whole are what the call takes. -/
theorem st_intro (d : Dev nD) :
    iprop((tLoc d ↦{fullShare} tab d) ∗ (sLoc d ↦{fullShare} m (sLoc d)) ∗ (oLoc d ↦{fullShare} m (oLoc d)))
      ⊢ (bigSep Finset.univ fun c : Fin ((K (F := F)).nCore 0) => (P m tab).st 0 d c : sProp 𝕄) := by
  show _ ⊢ bigSep Finset.univ fun c : Fin ((K (F := F)).nCore 0) => bigSep Finset.univ fun i : Fin ((K (F := F)).nSub 0) => goAt m tab d (tileOf c i)
  rw [bigSep_tiles (F := F) (goAt m tab d)]
  unfold goAt tileIn
  rw [bigSep_sep', bigSep_sep', ← pointsTo_tq, ← sPts_tiles, ← oPts_tiles]

omit [FloatOps F] in
/-- The tiles' parts of the result, each right, are the whole result right. -/
theorem oRows_join (d : Dev nD) (sid : Buf (Elt F) (sLoc d)) (f₀ : Buf (Elt F) (oLoc d)) :
    (bigSep Finset.univ fun w : Fin 2 × Fin 16 => iprop(∃ f, ⌜Good (tab d) sid (oSet w) f⌝ ∗ (oLoc d ↦[oSet w]{fullShare} f)))
      ⊢ (iprop(∃ f, ⌜Good (tab d) sid Finset.univ f⌝ ∗ (oLoc d ↦{fullShare} f)) : sProp 𝕄) := by
  have : Nonempty (Buf (Elt F) (oLoc d)) := ⟨f₀⟩
  refine (bigSep_exists_pi Finset.univ (fun w (f : Buf (Elt F) (oLoc d)) =>
    iprop(⌜Good (tab d) sid (oSet w) f⌝ ∗ (oLoc d ↦[oSet w]{fullShare} f)))).trans ?_
  iintro ⟨%fs, H⟩
  ihave H0 := (bigSep_pure_sep Finset.univ (fun w => Good (tab d) sid (oSet w) (fs w)) fun w => (oLoc d ↦[oSet w]{fullShare} fs w : sProp 𝕄)) $$ H
  icases H0 with ⟨%hg, H⟩
  ihave H' := (pointsTo_biUnion_join (ℓ := oLoc d) (q := fullShare) (Val := Elt F) Finset.univ oSet fs f₀ oSet_disjoint) $$ H
  icases H' with ⟨%g, %hfg, Hg⟩
  rw [oSet_cover]
  iexists g; isplitr
  · ipureintro
    intro y _ hy
    obtain ⟨w, -, hw⟩ := Finset.mem_biUnion.mp (oSet_cover.symm ▸ Finset.mem_univ y)
    exact (hfg w (Finset.mem_univ w) y hw).trans (hg w (Finset.mem_univ w) y hw hy)
  · iexact Hg

/-- What the call hands back is the table and the subject numbers as they were, and the gathered array right. -/
theorem dn_elim (d : Dev nD) :
    (bigSep Finset.univ fun c : Fin ((K (F := F)).nCore 0) => (P m tab).dn 0 d c : sProp 𝕄)
      ⊢ iprop((tLoc d ↦{fullShare} tab d) ∗ (sLoc d ↦{fullShare} m (sLoc d))
          ∗ ∃ f, ⌜Good (tab d) (m (sLoc d)) Finset.univ f⌝ ∗ (oLoc d ↦{fullShare} f)) := by
  show (bigSep Finset.univ fun c : Fin ((K (F := F)).nCore 0) => bigSep Finset.univ fun i : Fin ((K (F := F)).nSub 0) => tdAt m tab d (tileOf c i)) ⊢ _
  rw [bigSep_tiles (F := F) (tdAt m tab d)]
  unfold tdAt tileOut
  rw [bigSep_sep', bigSep_sep', ← pointsTo_tq, ← sPts_tiles]
  iintro ⟨Ht, Hs, Ho⟩
  isplitl [Ht]; · iexact Ht
  isplitl [Hs]; · iexact Hs
  iapply (oRows_join tab d (m (sLoc d)) (m (oLoc d))); iexact Ho

end Cert.Proof.K

end
-- ==== Proof.Body.lean ====
/-
  What each of the two TensorCore kernels leaves in its result block, as a function of the blocks it is handed, with the proof
  that the kernel run on whole staging buffers leaves just that.
-/
module

public import proofs.«01_k».proof.Proof.Setup
public import Idealize.ShloMosaic.Lib.Pipeline.Value

@[expose] public section

noncomputable section

namespace Cert.Proof.K

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The two zero offsets are the constant zero. -/
theorem off_zero : (![0, 0] : Fin 2 → Nat) = fun _ => 0 := funext fun a => by fin_cases a <;> rfl

/-- A load of a whole buffer is what the buffer reads. -/
theorem ld_whole {S : Shape} {e : EltTy} {sp : Space} (v : View sig .tc sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero h inb _

/-- After one store over a whole buffer the buffer reads the stored contents. -/
theorem read_writes_whole {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  by
    refine (View.read_writes_eq_canon v f _ fun y => ⟨_, List.mem_singleton_self _, View.mem_set_unit_zero h inb y⟩).trans ?_
    exact View.canon_unit_zero h inb w

/-! ## The values -/

/-- The combining kernel's result block of a block of linear outputs and a block of gathered rows. -/
def combBlk (Y G : S1024x128.Idx → Elt F .f32) : S1024x16.Idx → Elt F .f32 :=
  k2_pay1 (iota .tc S128x16 32 [1] iota_S128x16_d1_w32)
    (k2_pay6 (iota .tc S128x16 32 [0] iota_S128x16_d0_w32) k2_pay2 k2_pay3 k2_pay4 k2_pay5)
    (k2_pay7 (iota .tc S128x16 32 [0] iota_S128x16_d0_w32)) (Scalar.select (Scalar.cmpi .eq 2#32 0#32) 1#32 2#32) k2_pay8 Y G

/-- The expanding kernel's copies of the two output columns: entry `(r, c)` is one where `c / 2 = r`. -/
def selMat : FVec F S2x16 .f32 := k1_pay1

/-- The expanding kernel's offset row, of the bias: the bias column of each of the sixteen lanes and the one of lanes four and five. -/
def offRow (B : S1x2.Idx → Elt F .f32) : FVec F S1x16 .f32 :=
  k1_pay6 selMat (iota .tc S1x16 32 [1] iota_S1x16_d1_w32) k1_pay2 k1_pay3 k1_pay4 B

/-- Rows `o` to `o + 256` of the inputs through the expanded weights, the offset row added to each. -/
def rowsBlk (o : ℕ) (h : S4096x128.Slices ![o, 0] S256x128) (X : S4096x128.Idx → Elt F .f32) (W : S128x2.Idx → Elt F .f32)
    (B : S1x2.Idx → Elt F .f32) : FVec F S256x16 .f32 :=
  addf (matmul dot_S256x128_S128x16_S256x16_1_0_0_1_n_n none (extractStridedSlice S256x128 ![o, 0] (k1_pay7 X) h)
      (k1_pay5 selMat W) (constant S256x16 .f32 0x00000000#32))
    (broadcastTo S256x16 (offRow B) broadcasts_S1x16_S256x16)

/-- Each of the sixteen groups of 256 rows lies within the block of inputs. -/
theorem slices_rows (n : Fin 16) : S4096x128.Slices ![256 * n.val, 0] S256x128 :=
  ⟨rfl, fun a => by
    have := n.isLt
    fin_cases a
    · show 256 * n.val + 256 ≤ 4096; omega
    · show 0 + 128 ≤ 128; omega⟩

/-- The expanding kernel's result block: eight row groups side by side above eight more. -/
def expBlk (X : S4096x128.Idx → Elt F .f32) (W : S128x2.Idx → Elt F .f32) (B : S1x2.Idx → Elt F .f32) : S512x128.Idx → Elt F .f32 :=
  k1_pay15 (k1_pay5 selMat W) (offRow B) (k1_pay7 X) (rowsBlk 0 slices_S4096x128_o0_0_S256x128 X W B)
    (rowsBlk 256 slices_S4096x128_o256_0_S256x128 X W B) (rowsBlk 512 slices_S4096x128_o512_0_S256x128 X W B)
    (rowsBlk 768 slices_S4096x128_o768_0_S256x128 X W B) (rowsBlk 1024 slices_S4096x128_o1024_0_S256x128 X W B)
    (matmul dot_S256x128_S128x16_S256x16_1_0_0_1_n_n none
      (extractStridedSlice S256x128 ![1280, 0] (k1_pay7 X) slices_S4096x128_o1280_0_S256x128)
      (k1_pay5 selMat W) (constant S256x16 .f32 0x00000000#32))
    (broadcastTo S256x16 (offRow B) broadcasts_S1x16_S256x16)

/-! ## The expanding kernel's body -/

/-- On whole buffers holding `X`, `W`, `B` and anything, the expanding kernel ends with the fourth at `expBlk X W B`. -/
theorem expand_body (c : Dev nD) (E : Set ℕ) (i : grid1.Coords)
    (M0 : Memref sig .tc .vmem S4096x128 .f32) (h0 : M0.IsWhole) (M1 : Memref sig .tc .vmem S128x2 .f32) (h1 : M1.IsWhole)
    (M2 : Memref sig .tc .vmem S1x2 .f32) (h2 : M2.IsWhole) (M3 : Memref sig .tc .vmem S512x128 .f32) (h3 : M3.IsWhole)
    (X : S4096x128.Idx → Elt F .f32) (W : S128x2.Idx → Elt F .f32) (B : S1x2.Idx → Elt F .f32) (Z : S512x128.Idx → Elt F .f32)
    (Q : PUnit → sProp 𝕄) :
    iprop(owns (c : Thread nD τ) M0 fullShare X ∗ owns (c : Thread nD τ) M1 fullShare W ∗ owns (c : Thread nD τ) M2 fullShare B
        ∗ owns (c : Thread nD τ) M3 fullShare Z
        ∗ (iprop(owns (c : Thread nD τ) M0 fullShare X ∗ owns (c : Thread nD τ) M1 fullShare W
            ∗ owns (c : Thread nD τ) M2 fullShare B ∗ owns (c : Thread nD τ) M3 fullShare (expBlk X W B)) -∗ Q ⟨⟩))
      ⊢ wp frame (wpE (defs₀ (F := F)) Variants.none c none) E (cc1__tc_expand i M0 h0 M1 h1 M2 h2 M3 h3) Q := by
  unfold owns
  rw [h0.set_eq_univ, h1.set_eq_univ, h2.set_eq_univ, h3.set_eq_univ]
  iintro ⟨⟨%f0, %hf0, H0⟩, ⟨%f1, %hf1, H1⟩, ⟨%f2, %hf2, H2⟩, ⟨%f3, %hf3, H3⟩, Hk⟩
  sl_exec!
  sl_step
  iapply Hk
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  iexists _; isplitr; swap; · iexact H3
  ipureintro
  refine (read_writes_whole M3.view M3.view.junk off_zero inb_S512x128_S512x128_0_0 _).trans ?_
  obtain rfl := (ld_whole M0.view f0 off_zero inb_S4096x128_S4096x128_0_0).trans hf0
  obtain rfl := (ld_whole M1.view f1 off_zero inb_S128x2_S128x2_0_0).trans hf1
  obtain rfl := (ld_whole M2.view f2 off_zero inb_S1x2_S1x2_0_0).trans hf2
  rfl

/-! ## The combining kernel's body -/

/-- On whole buffers holding `Y`, `G` and anything, the combining kernel ends with the third at `combBlk Y G`. -/
theorem combine_body (c : Dev nD) (E : Set ℕ) (i : grid2.Coords)
    (M0 : Memref sig .tc .vmem S1024x128 .f32) (h0 : M0.IsWhole) (M1 : Memref sig .tc .vmem S1024x128 .f32) (h1 : M1.IsWhole)
    (M2 : Memref sig .tc .vmem S1024x16 .f32) (h2 : M2.IsWhole)
    (Y G : S1024x128.Idx → Elt F .f32) (Z : S1024x16.Idx → Elt F .f32) (Q : PUnit → sProp 𝕄) :
    iprop(owns (c : Thread nD τ) M0 fullShare Y ∗ owns (c : Thread nD τ) M1 fullShare G ∗ owns (c : Thread nD τ) M2 fullShare Z
        ∗ (iprop(owns (c : Thread nD τ) M0 fullShare Y ∗ owns (c : Thread nD τ) M1 fullShare G
            ∗ owns (c : Thread nD τ) M2 fullShare (combBlk Y G)) -∗ Q ⟨⟩))
      ⊢ wp frame (wpE (defs₀ (F := F)) Variants.none c none) E (cc2__tc_combine i M0 h0 M1 h1 M2 h2) Q := by
  unfold owns
  rw [h0.set_eq_univ, h1.set_eq_univ, h2.set_eq_univ]
  iintro ⟨⟨%f0, %hf0, H0⟩, ⟨%f1, %hf1, H1⟩, ⟨%f2, %hf2, H2⟩, Hk⟩
  sl_exec!
  sl_step
  iapply Hk
  isplitl [H0]; · iexists f0; isplitr; · ipureintro; exact hf0
                  iexact H0
  isplitl [H1]; · iexists f1; isplitr; · ipureintro; exact hf1
                  iexact H1
  iexists _; isplitr; swap; · iexact H2
  ipureintro
  refine (read_writes_whole M2.view M2.view.junk off_zero inb_S1024x16_S1024x16_0_0 _).trans ?_
  unfold combBlk
  rw [ld_whole M0.view f0 off_zero, ld_whole M1.view f1 off_zero, hf0, hf1]
  rfl

end Cert.Proof.K

end
-- ==== Proof.Regions.lean ====
/-
  The two TensorCore kernels as regions of the program: entered from any contents of the TensorCore's arrays, each leaves its
  result array at a function of the arrays it reads and every other array as it was.
-/
module

public import proofs.«01_k».proof.Proof.Body
public import Idealize.ShloMosaic.Lib.Pipeline.RegionsLoop
public import Idealize.ShloMosaic.Lib.Pipeline.ValueKit.Geometry

@[expose] public section

noncomputable section

namespace Cert.Proof.K

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The contents of every array of the TensorCore, on every device. -/
abbrev Vals : Type := (c : Dev nD) → (b : Ref sig .tc) → Buf (Elt F) ((c : Thread nD τ).loc b)

/-- The waits a TensorCore may have recorded once the SparseCore call has returned. -/
def okWaits (c : Dev nD) : Set (SemLoc sig × HIx 1) := {p | (K (F := F)).lev ((c : Thread nD τ), p.1) p.2 ≤ 8}

/-- The TensorCore owes nothing, its recorded waits all among `okWaits`. -/
def idleTc (c : Dev nD) : sProp 𝕄 :=
  iprop(∃ W, ⌜∀ p ∈ W, p ∈ okWaits (F := F) c⌝ ∗ owes (c : Thread nD τ) (0 : CellTallies nD τ sig (HIx 1)) W)

variable (V : Vals (F := F))

/-! ## The result arrays -/

/-- The expanding kernel's result: its block of rows `512 i` to `512 i + 512` is computed from the rows `4096 i` to `4096 i + 4096`
    of the inputs. -/
def expArr (X : S16384x128.Idx → Elt F .f32) (W : S128x2.Idx → Elt F .f32) (B : S1x2.Idx → Elt F .f32) (x : S2048x128.Idx) : Elt F .f32 :=
  expBlk (fun y => X (ValueIdx.ix2 (Fin.ofNat 16384 (4096 * ((x 0).val / 512) + (y 0).val)) (Fin.ofNat 128 (y 1).val))) W B
    (ValueIdx.ix2 (Fin.ofNat 512 (x 0).val) (Fin.ofNat 128 (x 1).val))

/-- The combining kernel's result: its block of rows `1024 i` to `1024 i + 1024` is computed from the same rows of the operands. -/
def combArr (Y G : S2048x128.Idx → Elt F .f32) (x : S2048x16.Idx) : Elt F .f32 :=
  combBlk (fun y => Y (ValueIdx.ix2 (Fin.ofNat 2048 (1024 * ((x 0).val / 1024) + (y 0).val)) (Fin.ofNat 128 (y 1).val)))
    (fun y => G (ValueIdx.ix2 (Fin.ofNat 2048 (1024 * ((x 0).val / 1024) + (y 0).val)) (Fin.ofNat 128 (y 1).val)))
    (ValueIdx.ix2 (Fin.ofNat 1024 (x 0).val) (Fin.ofNat 16 (x 1).val))

/-! ## The proof data -/

/-- The invariant of a region: the buffers of the other region's staging, at whatever they hold. -/
abbrev Φ1 (c : Dev nD) : sProp 𝕄 := Pipeline.scopedRest (Ix := HIx 1) (Name := ℕ) (U := UU) (Lvl := ℕ) (Val := Elt F) spec1 c
abbrev Φ2 (c : Dev nD) : sProp 𝕄 := Pipeline.scopedRest (Ix := HIx 1) (Name := ℕ) (U := UU) (Lvl := ℕ) (Val := Elt F) spec2 c

/-- A window's block of the entry contents. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The expanding region entered at `V`. -/
def dat1 (c : Dev nD) : Dat τ (Elt F) (HIx 1) ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => expBlk (blk1 V c 0 t) (blk1 V c 1 t) (blk1 V c 2 t)
  Φ _ := Φ1 c
  q _ := fullShare
  owed _ := 0
  recorded _ := okWaits (F := F) c

/-- The combining region entered at `V`. -/
def dat2 (c : Dev nD) : Dat τ (Elt F) (HIx 1) ℕ UU ℕ cfg2 c where
  A w := V c (Pipeline.arrRef spec2 w)
  after w t := match w with
    | ⟨0, _⟩ => blk2 V c 0 t
    | ⟨1, _⟩ => blk2 V c 1 t
    | ⟨2, _⟩ => combBlk (blk2 V c 0 t) (blk2 V c 1 t)
  Φ _ := Φ2 c
  q _ := fullShare
  owed _ := 0
  recorded _ := okWaits (F := F) c

variable (adm : (p : Fin 2) → (pcfgs (F := F) p).Adm)

/-- Both regions' data, entered at the same contents. -/
def pdats : (p : Fin 2) → (c : Dev nD) → Dat τ (Elt F) (HIx 1) ℕ UU ℕ (Pipeline.pin (pcfgs (F := F)) adm p) c
  | ⟨0, _⟩ => fun c => dat1 V c
  | ⟨1, _⟩ => fun c => dat2 V c

/-! ## The bodies' obligations -/

/-- An input window of the expanding region holds, before the body, the block that was fetched. -/
theorem before1 (c : Dev nD) (w : Fin cfg1.W) (hw : (cfg1.win w).isOut = false) (t : Fin cfg1.N)
    (hclip : ∀ t t' : Fin cfg1.N, (cfg1.win w).clip (cfg1.grid.coords t) = (cfg1.win w).clip (cfg1.grid.coords t'))
    (hkeep : ∀ t, (cfg1.win w).cut (cfg1.grid.coords t) ((dat1 V c).after w t) = (dat1 V c).blockOf w t) (d) :
    (dat1 V c).before w t d = (dat1 V c).fetched w t d :=
  (dat1 V c).before_in_eq_fetched w hw (fun _ => rfl) (fun t t' _ => hclip t t') hkeep t d

/-- At every step the expanding kernel's body keeps its input blocks and writes its result block. -/
theorem obligation1 (c : Dev nD) : BodyObligation (dat1 V c) (defs₀ (F := F)) 𝒱₀ (none : HIx 1) Set.univ := fun t => by
  rw [bigSep_W1, bigSep_W1]
  rw [show (dat1 V c).Φ t.castSucc = Φ1 c from rfl, show (dat1 V c).Φ t.succ = Φ1 c from rfl,
    show (dat1 V c).owesAt none t.succ = (dat1 V c).owesAt none t.castSucc from rfl]
  have e0 : ∀ d, (dat1 V c).before 0 t d = blk1 V c 0 t := fun d => before1 V c 0 rfl t (fun _ _ => rfl) (fun _ => rfl) d
  have e1 : ∀ d, (dat1 V c).before 1 t d = blk1 V c 1 t := fun d => before1 V c 1 rfl t (fun _ _ => rfl) (fun _ => rfl) d
  have e2 : ∀ d, (dat1 V c).before 2 t d = blk1 V c 2 t := fun d => before1 V c 2 rfl t (fun _ _ => rfl) (fun _ => rfl) d
  iintro ⟨HΦ, Howes, ⟨%d0, H0⟩, ⟨%d1, H1⟩, ⟨%d2, H2⟩, ⟨%d3, H3⟩⟩
  rw [e0, e1, e2]
  iapply (expand_body (F := F) c Set.univ (grid1.coords t) (st1_0 t) (hstage1_0 ((cfg1.slots t 0).cast nbuf1_0)) (st1_1 t)
    (hstage1_1 ((cfg1.slots t 1).cast nbuf1_1)) (st1_2 t) (hstage1_2 ((cfg1.slots t 2).cast nbuf1_2)) (st1_3 t)
    (hstage1_3 ((cfg1.slots t 3).cast nbuf1_3)) (blk1 V c 0 t) (blk1 V c 1 t) (blk1 V c 2 t) ((dat1 V c).before 3 t d3) _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- An input window of the combining region holds, before the body, the block that was fetched. -/
theorem before2 (c : Dev nD) (w : Fin cfg2.W) (hw : (cfg2.win w).isOut = false) (t : Fin cfg2.N)
    (hclip : ∀ t t' : Fin cfg2.N, (cfg2.win w).clip (cfg2.grid.coords t) = (cfg2.win w).clip (cfg2.grid.coords t'))
    (hkeep : ∀ t, (cfg2.win w).cut (cfg2.grid.coords t) ((dat2 V c).after w t) = (dat2 V c).blockOf w t) (d) :
    (dat2 V c).before w t d = (dat2 V c).fetched w t d :=
  (dat2 V c).before_in_eq_fetched w hw (fun _ => rfl) (fun t t' _ => hclip t t') hkeep t d

/-- At every step the combining kernel's body keeps its input blocks and writes its result block. -/
theorem obligation2 (c : Dev nD) : BodyObligation (dat2 V c) (defs₀ (F := F)) 𝒱₀ (none : HIx 1) Set.univ := fun t => by
  rw [bigSep_W2, bigSep_W2]
  rw [show (dat2 V c).Φ t.castSucc = Φ2 c from rfl, show (dat2 V c).Φ t.succ = Φ2 c from rfl,
    show (dat2 V c).owesAt none t.succ = (dat2 V c).owesAt none t.castSucc from rfl]
  have e0 : ∀ d, (dat2 V c).before 0 t d = blk2 V c 0 t := fun d => before2 V c 0 rfl t (fun _ _ => rfl) (fun _ => rfl) d
  have e1 : ∀ d, (dat2 V c).before 1 t d = blk2 V c 1 t := fun d => before2 V c 1 rfl t (fun _ _ => rfl) (fun _ => rfl) d
  iintro ⟨HΦ, Howes, ⟨%d0, H0⟩, ⟨%d1, H1⟩, ⟨%d2, H2⟩⟩
  rw [e0, e1]
  iapply (combine_body (F := F) c Set.univ (grid2.coords t) (st2_0 t) (hstage2_0 ((cfg2.slots t 0).cast nbuf2_0)) (st2_1 t)
    (hstage2_1 ((cfg2.slots t 1).cast nbuf2_1)) (st2_2 t) (hstage2_2 ((cfg2.slots t 2).cast nbuf2_2)) (blk2 V c 0 t) (blk2 V c 1 t)
    ((dat2 V c).before 2 t d2) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The result arrays after the runs -/

/-- The expanding region's blocks: inputs and results move with the step, the weights and the bias stay. -/
theorem idx1 : ∀ t : Fin grid1.N, win1_0.index t = ![t.val, 0] ∧ win1_1.index t = ![0, 0] ∧ win1_2.index t = ![0, 0]
    ∧ win1_3.index t = ![t.val, 0] := by decide +kernel

/-- The combining region's blocks all move with the step. -/
theorem idx2 : ∀ t : Fin grid2.N, win2_0.index t = ![t.val, 0] ∧ win2_1.index t = ![t.val, 0] ∧ win2_2.index t = ![t.val, 0] := by
  decide +kernel

/-- Two indices of a two-axis array with the same coordinates are equal. -/
theorem ix2_ext {n m : ℕ} (i j : (⟨2, ![n, m]⟩ : Shape).Idx) (h0 : (i 0).val = (j 0).val) (h1 : (i 1).val = (j 1).val) : i = j := by
  funext a
  match a with
  | ⟨0, _⟩ => exact Fin.ext h0
  | ⟨1, _⟩ => exact Fin.ext h1

/-- The expanding region's output block `t`, as a function of the whole operands. -/
theorem blk_exp (c : Dev nD) (t : Fin grid1.N) (y : S512x128.Idx) (x : S2048x128.Idx) (h0 : (x 0).val = t.val * 512 + (y 0).val)
    (h1 : (x 1).val = (y 1).val) :
    expBlk (blk1 V c 0 t) (blk1 V c 1 t) (blk1 V c 2 t) y = expArr (V c main_arg0) (V c main_arg2) (V c main_v4) x := by
  obtain ⟨e0, e1, e2, -⟩ := idx1 t
  have ht : t.val < 4 := t.isLt
  have y0 : (y 0).val < 512 := (y 0).isLt
  have y1 : (y 1).val < 128 := (y 1).isLt
  have x0 : (blk1 V c 0 t : S4096x128.Idx → Elt F .f32) = fun z => V c main_arg0
      (ValueIdx.ix2 (Fin.ofNat 16384 (4096 * ((x 0).val / 512) + (z 0).val)) (Fin.ofNat 128 (z 1).val)) := by
    funext z
    have z0 : (z 0).val < 4096 := (z 0).isLt
    have z1 : (z 1).val < 128 := (z 1).isLt
    refine congrArg (V c main_arg0) (ix2_ext _ _ ?_ ?_)
    · show ((win1_0.rect t).emb z 0).val = (4096 * ((x 0).val / 512) + (z 0).val) % 16384
      rw [Pipeline.Window.rect_emb_val win1_0 t z 0, e0]
      show t.val * 4096 + (z 0).val = _
      omega
    · show ((win1_0.rect t).emb z 1).val = (z 1).val % 128
      rw [Pipeline.Window.rect_emb_val win1_0 t z 1, e0]
      show 0 * 128 + (z 1).val = _
      omega
  have x1 : (blk1 V c 1 t : S128x2.Idx → Elt F .f32) = V c main_arg2 := by
    funext z
    refine congrArg (V c main_arg2) (ix2_ext _ _ ?_ ?_)
    · exact (Pipeline.Window.rect_emb_val_of_index_zero win1_1 t 0 (by rw [e1]; rfl) z)
    · exact (Pipeline.Window.rect_emb_val_of_index_zero win1_1 t 1 (by rw [e1]; rfl) z)
  have x2 : (blk1 V c 2 t : S1x2.Idx → Elt F .f32) = V c main_v4 := by
    funext z
    refine congrArg (V c main_v4) (ix2_ext _ _ ?_ ?_)
    · exact (Pipeline.Window.rect_emb_val_of_index_zero win1_2 t 0 (by rw [e2]; rfl) z)
    · exact (Pipeline.Window.rect_emb_val_of_index_zero win1_2 t 1 (by rw [e2]; rfl) z)
  refine congr (congr (congr (congrArg expBlk x0) x1) x2) (ix2_ext _ _ ?_ ?_)
  · show (y 0).val = (x 0).val % 512; omega
  · show (y 1).val = (x 1).val % 128; omega

/-- The combining region's output block `t`, as a function of the whole operands. -/
theorem blk_comb (c : Dev nD) (t : Fin grid2.N) (y : S1024x16.Idx) (x : S2048x16.Idx) (h0 : (x 0).val = t.val * 1024 + (y 0).val)
    (h1 : (x 1).val = (y 1).val) : combBlk (blk2 V c 0 t) (blk2 V c 1 t) y = combArr (V c main_v5) (V c main_v3) x := by
  obtain ⟨e0, e1, -⟩ := idx2 t
  have ht : t.val < 2 := t.isLt
  have y0 : (y 0).val < 1024 := (y 0).isLt
  have y1 : (y 1).val < 16 := (y 1).isLt
  have x0 : (blk2 V c 0 t : S1024x128.Idx → Elt F .f32) = fun z => V c main_v5
      (ValueIdx.ix2 (Fin.ofNat 2048 (1024 * ((x 0).val / 1024) + (z 0).val)) (Fin.ofNat 128 (z 1).val)) := by
    funext z
    have z0 : (z 0).val < 1024 := (z 0).isLt
    have z1 : (z 1).val < 128 := (z 1).isLt
    refine congrArg (V c main_v5) (ix2_ext _ _ ?_ ?_)
    · show ((win2_0.rect t).emb z 0).val = (1024 * ((x 0).val / 1024) + (z 0).val) % 2048
      rw [Pipeline.Window.rect_emb_val win2_0 t z 0, e0]
      show t.val * 1024 + (z 0).val = _
      omega
    · show ((win2_0.rect t).emb z 1).val = (z 1).val % 128
      rw [Pipeline.Window.rect_emb_val win2_0 t z 1, e0]
      show 0 * 128 + (z 1).val = _
      omega
  have x1 : (blk2 V c 1 t : S1024x128.Idx → Elt F .f32) = fun z => V c main_v3
      (ValueIdx.ix2 (Fin.ofNat 2048 (1024 * ((x 0).val / 1024) + (z 0).val)) (Fin.ofNat 128 (z 1).val)) := by
    funext z
    have z0 : (z 0).val < 1024 := (z 0).isLt
    have z1 : (z 1).val < 128 := (z 1).isLt
    refine congrArg (V c main_v3) (ix2_ext _ _ ?_ ?_)
    · show ((win2_1.rect t).emb z 0).val = (1024 * ((x 0).val / 1024) + (z 0).val) % 2048
      rw [Pipeline.Window.rect_emb_val win2_1 t z 0, e1]
      show t.val * 1024 + (z 0).val = _
      omega
    · show ((win2_1.rect t).emb z 1).val = (z 1).val % 128
      rw [Pipeline.Window.rect_emb_val win2_1 t z 1, e1]
      show 0 * 128 + (z 1).val = _
      omega
  refine congr (congr (congrArg combBlk x0) x1) (ix2_ext _ _ ?_ ?_)
  · show (y 0).val = (x 0).val % 1024; omega
  · show (y 1).val = (x 1).val % 16; omega

/-- The expanding region leaves its result array at `expArr` of the arrays it reads. -/
theorem arr1 (c : Dev nD) : (dat1 V c).arrAt 3 cfg1.N = expArr (V c main_arg0) (V c main_arg2) (V c main_v4) := by
  refine (dat1 V c).arrAt_eq_of_covers 3 _ (by decide +kernel) fun t hf y => ?_
  blk_simp
  dsimp only [dat1]
  obtain ⟨-, -, -, e⟩ := idx1 t
  refine blk_exp V c t y _ ?_ ?_
  · show ((win1_3.rect t).emb y 0).val = _
    rw [Pipeline.Window.rect_emb_val win1_3 t y 0, e]; rfl
  · show ((win1_3.rect t).emb y 1).val = _
    rw [Pipeline.Window.rect_emb_val win1_3 t y 1, e]
    exact Nat.zero_add _

/-- The combining region leaves its result array at `combArr` of the arrays it reads. -/
theorem arr2 (c : Dev nD) : (dat2 V c).arrAt 2 cfg2.N = combArr (V c main_v5) (V c main_v3) := by
  refine (dat2 V c).arrAt_eq_of_covers 2 _ (by decide +kernel) fun t hf y => ?_
  blk_simp
  dsimp only [dat2]
  obtain ⟨-, -, e⟩ := idx2 t
  refine blk_comb V c t y _ ?_ ?_
  · show ((win2_2.rect t).emb y 0).val = _
    rw [Pipeline.Window.rect_emb_val win2_2 t y 0, e]; rfl
  · show ((win2_2.rect t).emb y 1).val = _
    rw [Pipeline.Window.rect_emb_val win2_2 t y 1, e]
    exact Nat.zero_add _

/-! ## The regions -/

set_option backward.isDefEq.respectTransparency.types false in
/-- The expanding kernel's call, at whatever its arrays hold: its result array goes to `expArr`, every other is unchanged. -/
def reg1 (R : Dev nD → sProp 𝕄) (V' : Vals (F := F)) (hout : ∀ c, V' c main_v5 = expArr (V c main_arg0) (V c main_arg2) (V c main_v4))
    (hne : ∀ c (b : Ref sig .tc), b ≠ main_v5 → V' c b = V c b) :
    Pipeline.RegionSeg (pcfgs (F := F)) adm (pdats V adm) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation1 V c).loose
  hwaits := Pipeline.hwaits_of_owed_zero _ _ _ _ _ _ 0 fun _ _ => rfl
  pre c := iprop(unscopedBufs c (V c) ∗ R c ∗ idleTc (F := F) c)
  post c := iprop(unscopedBufs c (V' c) ∗ R c ∗ idleTc (F := F) c)
  X _ := BI.emp
  Y _ := BI.emp
  Z c := iprop(Pipeline.unscopedRest (Ix := HIx 1) (Name := ℕ) (U := UU) (Lvl := ℕ) spec1 c (V c) ∗ R c)
  hentry c := by
    have split := Pipeline.arrays_of_unscopedBufs (p := 0) (pcfgs (F := F)) adm (pdats V adm) launch1.win
      launch1.arr_whole c ((pdats V adm 0 c).share_full fun _ => rfl) (V c) fun _ => rfl
    rw [Pipeline.ownSems0_none]
    iintro ⟨⟨Hbufs, HR, HO⟩, -, -⟩
    ihave H := split $$ Hbufs
    icases H with ⟨Harr, Hrest⟩
    imodintro
    isplitl [Harr]; · iexact Harr
    isplitr
    · unfold Pipeline.prefHeld
      rw [show (Finset.univ : Finset (Fin 0)) = ∅ from rfl, BI.bigSep_empty]
      iempintro
    isplitl [HO]
    · unfold Pipeline.Dat.owesAt Pipeline.owesWithin idleTc
      icases HO with ⟨%W, %hW, HO⟩
      iexists W
      isplitr
      · ipureintro; exact fun x hx => Or.inl (hW x hx)
      iexact HO
    isplitr; · iempintro
    isplitl [Hrest]; · iexact Hrest
    iexact HR
  hin c := by
    rw [show (pdats V adm 0 c).Φ 0 = Φ1 c from rfl]
    iintro ⟨-, -, H⟩
    iexact H
  hout c := by
    rw [Pipeline.ownSems0_none, show (pdats V adm 0 c).Φ (Fin.last _) = Φ1 c from rfl]
    iintro H
    isplitr; · iempintro
    isplitr; · iempintro
    iexact H
  hexit c := by
    have join := Pipeline.unscopedBufs_of_arrays (p := 0) (pcfgs (F := F)) adm (Ix := HIx 1) (Name := ℕ) (U := UU) (Lvl := ℕ)
      launch1.win launch1.arr_whole c (pdats V adm) ((pdats V adm 0 c).share_full fun _ => rfl) (V c) (V' c)
      ((pdats V adm 0 c).arrAt · cfg1.N)
      (fun w => by
        fin_cases w
        · exact ((pdats V adm 0 c).arrAt_in 0 rfl _).trans (hne c main_arg0 (by decide)).symm
        · exact ((pdats V adm 0 c).arrAt_in 1 rfl _).trans (hne c main_arg2 (by decide)).symm
        · exact ((pdats V adm 0 c).arrAt_in 2 rfl _).trans (hne c main_v4 (by decide)).symm
        · exact (arr1 V c).trans (hout c).symm)
      (fun b hb => hne c b fun h => hb (h ▸ Finset.mem_image.mpr ⟨3, Finset.mem_univ _, rfl⟩))
    iintro ⟨Harr, HO, -, Hrest, HR⟩
    imodintro
    isplitl [Harr Hrest]
    · iapply join
      isplitl [Harr]; · iexact Harr
      iexact Hrest
    isplitl [HR]; · iexact HR
    unfold Pipeline.Dat.owesAt Pipeline.owesWithin idleTc
    icases HO with ⟨%W, %hW, HO⟩
    iexists W
    isplitr
    · ipureintro
      intro x hx
      rcases hW hx with h | ⟨w, s, rfl⟩
      · exact h
      · exact Nat.zero_le _
    iexact HO

set_option backward.isDefEq.respectTransparency.types false in
/-- The combining kernel's call, at whatever its arrays hold: its result array goes to `combArr`, every other is unchanged. -/
def reg2 (R : Dev nD → sProp 𝕄) (V' : Vals (F := F)) (hout : ∀ c, V' c main_v6 = combArr (V c main_v5) (V c main_v3))
    (hne : ∀ c (b : Ref sig .tc), b ≠ main_v6 → V' c b = V c b) :
    Pipeline.RegionSeg (pcfgs (F := F)) adm (pdats V adm) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 V c).loose
  hwaits := Pipeline.hwaits_of_owed_zero _ _ _ _ _ _ 1 fun _ _ => rfl
  pre c := iprop(unscopedBufs c (V c) ∗ R c ∗ idleTc (F := F) c)
  post c := iprop(unscopedBufs c (V' c) ∗ R c ∗ idleTc (F := F) c)
  X _ := BI.emp
  Y _ := BI.emp
  Z c := iprop(Pipeline.unscopedRest (Ix := HIx 1) (Name := ℕ) (U := UU) (Lvl := ℕ) spec2 c (V c) ∗ R c)
  hentry c := by
    have split := Pipeline.arrays_of_unscopedBufs (p := 1) (pcfgs (F := F)) adm (pdats V adm) launch2.win
      launch2.arr_whole c ((pdats V adm 1 c).share_full fun _ => rfl) (V c) fun _ => rfl
    rw [Pipeline.ownSems0_none]
    iintro ⟨⟨Hbufs, HR, HO⟩, -, -⟩
    ihave H := split $$ Hbufs
    icases H with ⟨Harr, Hrest⟩
    imodintro
    isplitl [Harr]; · iexact Harr
    isplitr
    · unfold Pipeline.prefHeld
      rw [show (Finset.univ : Finset (Fin 0)) = ∅ from rfl, BI.bigSep_empty]
      iempintro
    isplitl [HO]
    · unfold Pipeline.Dat.owesAt Pipeline.owesWithin idleTc
      icases HO with ⟨%W, %hW, HO⟩
      iexists W
      isplitr
      · ipureintro; exact fun x hx => Or.inl (hW x hx)
      iexact HO
    isplitr; · iempintro
    isplitl [Hrest]; · iexact Hrest
    iexact HR
  hin c := by
    rw [show (pdats V adm 1 c).Φ 0 = Φ2 c from rfl]
    iintro ⟨-, -, H⟩
    iexact H
  hout c := by
    rw [Pipeline.ownSems0_none, show (pdats V adm 1 c).Φ (Fin.last _) = Φ2 c from rfl]
    iintro H
    isplitr; · iempintro
    isplitr; · iempintro
    iexact H
  hexit c := by
    have join := Pipeline.unscopedBufs_of_arrays (p := 1) (pcfgs (F := F)) adm (Ix := HIx 1) (Name := ℕ) (U := UU) (Lvl := ℕ)
      launch2.win launch2.arr_whole c (pdats V adm) ((pdats V adm 1 c).share_full fun _ => rfl) (V c) (V' c)
      ((pdats V adm 1 c).arrAt · cfg2.N)
      (fun w => by
        fin_cases w
        · exact ((pdats V adm 1 c).arrAt_in 0 rfl _).trans (hne c main_v5 (by decide)).symm
        · exact ((pdats V adm 1 c).arrAt_in 1 rfl _).trans (hne c main_v3 (by decide)).symm
        · exact (arr2 V c).trans (hout c).symm)
      (fun b hb => hne c b fun h => hb (h ▸ Finset.mem_image.mpr ⟨2, Finset.mem_univ _, rfl⟩))
    iintro ⟨Harr, HO, -, Hrest, HR⟩
    imodintro
    isplitl [Harr Hrest]
    · iapply join
      isplitl [Harr]; · iexact Harr
      iexact Hrest
    isplitl [HR]; · iexact HR
    unfold Pipeline.Dat.owesAt Pipeline.owesWithin idleTc
    icases HO with ⟨%W, %hW, HO⟩
    iexists W
    isplitr
    · ipureintro
      intro x hx
      rcases hW hx with h | ⟨w, s, rfl⟩
      · exact h
      · exact Nat.zero_le _
    iexact HO

end Cert.Proof.K

end
-- ==== Proof.Steps.lean ====
/-
  The steps of the program's @main on the TensorCore: its host operations, its one SparseCore call and its two TensorCore
  kernels, each from the arrays at one valuation to the arrays at the next.
-/
module

public import proofs.«01_k».proof.Proof.Obligation
public import proofs.«01_k».proof.Proof.Regions

@[expose] public section

noncomputable section

namespace Cert.Proof.K

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq)

variable {F : FTy → Type}

local notation "𝕄" => MT nD τ sig (HIx 1) (Elt F) ℕ UU ℕ

/-! ## The arrays, held at a valuation -/

/-- The arrays of the TensorCore that stay for the whole program. -/
abbrev hbmRefs : Finset (DevRef τ sig) := (StableHlo.tcRefs τ sig).filter fun b => ¬ b.isScoped

/-- The contents of the TensorCore's arrays, of the same on every device. -/
abbrev ofVal (W : Dev nD → Valuation τ sig (Elt F)) : (c : Dev nD) → (b : Ref sig .tc) → Buf (Elt F) ((c : Thread nD τ).loc b) :=
  fun c b => W c (Proc.devRef .tc b)

/-- The arrays that stay, as the launch hands them over, are held at their contents. -/
theorem unscopedBufs_held (d : Dev nD) (W : Dev nD → Valuation τ sig (Elt F)) :
    (unscopedBufs d (ofVal W d) : sProp 𝕄) = held (d : Thread nD τ) hbmRefs (W d) := by
  unfold unscopedBufs StableHlo.held hbmRefs StableHlo.tcRefs
  rw [Finset.filter_map, bigSep_map]
  rfl

variable [FloatOps F] [∀ e, Nonempty (Elt F e)]

/-! ## The two TensorCore kernels -/

/-- No pipeline prefetches a table. -/
abbrev adm : (p : Fin 2) → (pcfgs (F := F) p).Adm := fun p => (cfgs p).toPCfg_adm

/-- The pipelines' semaphores are all different. -/
theorem pin_inj : Function.Injective (Pipeline.cellOf (nD := nD) (τ := τ) (Pipeline.pin (pcfgs (F := F)) adm)) := cellOf_inj

/-- The call of a TensorCore kernel, as a program of the pipelines' own labels; -/
def callProg (p : Fin 2) : Prog (TpuEff nD τ sig (Elt F) (ΛP (F := F)) .tc) PUnit := .op (.customCall (Pipeline.entry p) ()) .ret
/-- lifted, it is the call in @main. -/
theorem lift_callProg (p : Fin 2) : (Prog.lift (.customCall (SparseCore.inner (Pipeline.entry p)) ())
      : Prog (TpuEff nD τ sig (Elt F) (SparseCore.Sig (ΛP (F := F)) 1) .tc) PUnit) = SparseCore.liftProg (callProg (F := F) p) := rfl

/-- What a core keeps for its two pipelines until it enters them. -/
abbrev pipeGhost (p : Fin 2) (d : Dev nD) : sProp 𝕄 :=
  iprop(Pipeline.cellsGhost (Pipeline.pin (pcfgs (F := F)) adm) (EP (F := F)) p d
    ∗ Pipeline.toksInit (Pipeline.pin (pcfgs (F := F)) adm) (EP (F := F)) p d)

/-- The valuation after the expanding kernel, and after the combining one. -/
abbrev aft1 (W : Dev nD → Valuation τ sig (Elt F)) (d : Dev nD) : Valuation τ sig (Elt F) :=
  Function.update (W d) (Proc.devRef .tc main_v5) (expArr (ofVal W d main_arg0) (ofVal W d main_arg2) (ofVal W d main_v4))
abbrev aft2 (W : Dev nD → Valuation τ sig (Elt F)) (d : Dev nD) : Valuation τ sig (Elt F) :=
  Function.update (W d) (Proc.devRef .tc main_v6) (combArr (ofVal W d main_v5) (ofVal W d main_v3))

/-- The expanding kernel's call takes the arrays from `W` to `aft1 W`. -/
theorem step1 (d : Dev nD) (W : Dev nD → Valuation τ sig (Elt F)) (Φ : PUnit → sProp 𝕄) :
    iprop((boundary (d : Thread nD τ) ∗ held (d : Thread nD τ) hbmRefs (W d) ∗ idleTc (F := F) d)
        ∗ levAts (K (F := F)).L (K (F := F)).lev ∗ pipeGhost (F := F) 0 d
        ∗ ((boundary (d : Thread nD τ) ∗ held (d : Thread nD τ) hbmRefs (aft1 W d) ∗ idleTc (F := F) d) -∗ Φ ⟨⟩))
      ⊢ wp frame (wpE ((K (F := F)).defs (D (F := F))) 𝒱 (d : Thread nD τ) none) Set.univ
          (Prog.lift (.customCall (SparseCore.inner (Pipeline.entry 0)) ())) Φ := by
  rw [← unscopedBufs_held, ← unscopedBufs_held]
  rw [lift_callProg]
  refine BIBase.Entails.trans ?_ ((K (F := F)).wp_liftProg (D (F := F)) 𝒱 (d : Thread nD τ) Set.univ none (callProg (F := F) 0) Φ)
  have hreg := Pipeline.RegionSeg.wp (pcfgs (F := F)) adm (pdats (ofVal W) adm) (none : HIx 1) pin_inj (EP (F := F)) (defs₀ (F := F)) 𝒱₀
    (K (F := F)).L (K (F := F)).lev
    (reg1 (ofVal W) adm (fun _ => iprop(emp)) (ofVal (aft1 W)) (fun c => Function.update_self _ _ _)
      (fun c b hb => Function.update_of_ne (StableHlo.devRef_ne_of_ne hb) _ _))
    d none (fun u h => nomatch h) .ret Φ
  dsimp only [reg1] at hreg
  refine BIBase.Entails.trans ?_ hreg
  iintro ⟨⟨Hb, Hbufs, HO⟩, Hlev, ⟨Hg, Ht⟩, Hk⟩
  isplitl [Hk]
  · iintro ⟨Hb, Hbufs, -, HO⟩
    rw [wp_ret]
    imodintro
    iapply Hk
    isplitl [Hb]; · iexact Hb
    isplitl [Hbufs]; · iexact Hbufs
    iexact HO
  isplitl [Hb]; · iexact Hb
  isplitl [Hbufs HO]
  · isplitl [Hbufs]; · iexact Hbufs
    isplitr; · iempintro
    iexact HO
  isplitl [Hlev]; · iexact Hlev
  isplitl [Hg]; · iexact Hg
  iexact Ht

/-- The combining kernel's call takes the arrays from `W` to `aft2 W`. -/
theorem step2 (d : Dev nD) (W : Dev nD → Valuation τ sig (Elt F)) (Φ : PUnit → sProp 𝕄) :
    iprop((boundary (d : Thread nD τ) ∗ held (d : Thread nD τ) hbmRefs (W d) ∗ idleTc (F := F) d)
        ∗ levAts (K (F := F)).L (K (F := F)).lev ∗ pipeGhost (F := F) 1 d
        ∗ ((boundary (d : Thread nD τ) ∗ held (d : Thread nD τ) hbmRefs (aft2 W d) ∗ idleTc (F := F) d) -∗ Φ ⟨⟩))
      ⊢ wp frame (wpE ((K (F := F)).defs (D (F := F))) 𝒱 (d : Thread nD τ) none) Set.univ
          (Prog.lift (.customCall (SparseCore.inner (Pipeline.entry 1)) ())) Φ := by
  rw [← unscopedBufs_held, ← unscopedBufs_held]
  rw [lift_callProg]
  refine BIBase.Entails.trans ?_ ((K (F := F)).wp_liftProg (D (F := F)) 𝒱 (d : Thread nD τ) Set.univ none (callProg (F := F) 1) Φ)
  have hreg := Pipeline.RegionSeg.wp (pcfgs (F := F)) adm (pdats (ofVal W) adm) (none : HIx 1) pin_inj (EP (F := F)) (defs₀ (F := F)) 𝒱₀
    (K (F := F)).L (K (F := F)).lev
    (reg2 (ofVal W) adm (fun _ => iprop(emp)) (ofVal (aft2 W)) (fun c => Function.update_self _ _ _)
      (fun c b hb => Function.update_of_ne (StableHlo.devRef_ne_of_ne hb) _ _))
    d none (fun u h => nomatch h) .ret Φ
  dsimp only [reg2] at hreg
  refine BIBase.Entails.trans ?_ hreg
  iintro ⟨⟨Hb, Hbufs, HO⟩, Hlev, ⟨Hg, Ht⟩, Hk⟩
  isplitl [Hk]
  · iintro ⟨Hb, Hbufs, -, HO⟩
    rw [wp_ret]
    imodintro
    iapply Hk
    isplitl [Hb]; · iexact Hb
    isplitl [Hbufs]; · iexact Hbufs
    iexact HO
  isplitl [Hb]; · iexact Hb
  isplitl [Hbufs HO]
  · isplitl [Hbufs]; · iexact Hbufs
    isplitr; · iempintro
    iexact HO
  isplitl [Hlev]; · iexact Hlev
  isplitl [Hg]; · iexact Hg
  iexact Ht

/-! ## The SparseCore call -/

/-- The three arrays of the SparseCore call. -/
abbrev scRefs : Finset (DevRef τ sig) := {Proc.devRef .tc main_v2, Proc.devRef .tc main_arg1, Proc.devRef .tc main_v3}

omit [∀ e, Nonempty (Elt F e)] [FloatOps F] in
/-- The three arrays of the SparseCore call, held, one by one. -/
theorem held_scRefs (d : Dev nD) (W : Valuation τ sig (Elt F)) :
    (held (d : Thread nD τ) scRefs W : sProp 𝕄)
      = iprop((tLoc d ↦{fullShare} W (Proc.devRef .tc main_v2)) ∗ (sLoc d ↦{fullShare} W (Proc.devRef .tc main_arg1))
          ∗ (oLoc d ↦{fullShare} W (Proc.devRef .tc main_v3))) := by
  unfold StableHlo.held
  rw [SparseCore.bigSep_insert' (by decide), SparseCore.bigSep_insert' (by decide), bigSep_singleton]

variable (m : (ℓ : Loc nD τ sig) → Buf (Elt F) ℓ) (tab : ∀ d : Dev nD, Buf (Elt F) (tLoc d))

omit [∀ e, Nonempty (Elt F e)] in
/-- The SparseCore call leaves in its result array the gathered table rows and every other array as it was. -/
theorem step0 (κ : GSem nD τ sig → ℕ) (d : Dev nD) (W : Valuation τ sig (Elt F)) (h2 : W (Proc.devRef .tc main_v2) = tab d)
    (h1 : W (Proc.devRef .tc main_arg1) = m (sLoc d)) (h3 : W (Proc.devRef .tc main_v3) = m (oLoc d)) (Φ : PUnit → sProp 𝕄) :
    iprop((K (F := F)).ctx EH (P m tab) κ ∗ (K (F := F)).tcSt EH d 0 ∗ held (d : Thread nD τ) hbmRefs W
        ∗ (((K (F := F)).tcSt EH d 1 ∗ ∃ g : S2048x128.Idx → Elt F .f32, ⌜Good (tab d) (m (sLoc d)) Finset.univ g⌝
            ∗ held (d : Thread nD τ) hbmRefs (Function.update W (Proc.devRef .tc main_v3) g)) -∗ Φ ⟨⟩))
      ⊢ wp frame (wpE ((K (F := F)).defs (D (F := F))) 𝒱 (d : Thread nD τ) none) Set.univ ((K (F := F)).run d 0) Φ := by
  have hsub : scRefs ⊆ hbmRefs := by decide
  have hrest : ∀ g : S2048x128.Idx → Elt F .f32, (held (d : Thread nD τ) (hbmRefs \ scRefs) W : sProp 𝕄)
      = held (d : Thread nD τ) (hbmRefs \ scRefs) (Function.update W (Proc.devRef .tc main_v3) g) := fun g =>
    StableHlo.held_congr _ fun b hb => by
      refine (Function.update_of_ne (fun h => (Finset.mem_sdiff.mp hb).2 ?_) _ _).symm
      rw [h]; decide
  rw [StableHlo.held_sub_split _ hsub, held_scRefs, h2, h1, h3]
  iintro ⟨#Hctx, Hst, ⟨⟨Ht, Hs, Ho⟩, Hrest⟩, Hk⟩
  iapply ((K (F := F)).wp_run (D (F := F)) 𝒱 (EH := EH) (P := P m tab) κ d 0)
  isplitr; · iexact Hctx
  isplitl [Hst]; · iexact Hst
  isplitl [Ht Hs Ho]
  · iapply (st_intro m tab d)
    isplitl [Ht]; · iexact Ht
    isplitl [Hs]; · iexact Hs
    iexact Ho
  iintro ⟨Hst, Hdn⟩
  ihave H := (dn_elim m tab d) $$ Hdn
  icases H with ⟨Ht, Hs, ⟨%g, %hg, Ho⟩⟩
  iapply Hk
  isplitl [Hst]; · iexact Hst
  iexists g
  isplitr; · ipureintro; exact hg
  iapply (show iprop(((tLoc d ↦{fullShare} tab d) ∗ (sLoc d ↦{fullShare} m (sLoc d)) ∗ (oLoc d ↦{fullShare} g))
      ∗ held (d : Thread nD τ) (hbmRefs \ scRefs) W)
      ⊢ (held (d : Thread nD τ) hbmRefs (Function.update W (Proc.devRef .tc main_v3) g) : sProp 𝕄) from BIBase.Entails.of_eq (by
    rw [StableHlo.held_sub_split _ hsub (Function.update W (Proc.devRef .tc main_v3) g), held_scRefs, ← hrest g,
      Function.update_self, Function.update_of_ne (by decide), Function.update_of_ne (by decide), h2, h1]))
  isplitl [Ht Hs Ho]
  · isplitl [Ht]; · iexact Ht
    isplitl [Hs]; · iexact Hs
    iexact Ho
  iexact Hrest

end Cert.Proof.K

end
-- ==== Proof.Run.lean ====
/-
  The run of the program from a memory whose subject numbers are in range: every fair execution ends, every semaphore at zero,
  the arrays at the contents that the steps of @main compute.
-/
module

public import proofs.«01_k».proof.Proof.Steps

@[expose] public section

noncomputable section

namespace Cert.Proof.K

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq)

variable {F : FTy → Type} [FloatOps F]

local notation "𝕄" => MT nD τ sig (HIx 1) (Elt F) ℕ UU ℕ

/-! ## @main as host operations and calls -/

/-- The host operations before the SparseCore call, which build the table; -/
abbrev opsTab : List (HloOp τ sig (Elt F)) :=
  [StableHlo.reshape main_arg4 main_v0 (rfl : (.f32 : EltTy) = .f32) shapeCasts_S64x2x2_S64x4,
   StableHlo.nullary main_cst (constant S_ .f32 0x00000000#32),
   StableHlo.unary main_cst main_v1 (broadcastInDim S64x122 ![] bcast_S_S64x122 : (⟨S_, .f32⟩ : BufTy).Contents (Elt F) → (⟨S64x122, .f32⟩ : BufTy).Contents (Elt F)),
   StableHlo.nary ![main_v0, main_arg5, main_v1] main_v2 (fun u => (concatenate S64x128 1 [⟨S64x4, (u 0 : (⟨S64x4, .f32⟩ : BufTy).Contents (Elt F))⟩, ⟨S64x2, (u 1 : (⟨S64x2, .f32⟩ : BufTy).Contents (Elt F))⟩, ⟨S64x122, (u 2 : (⟨S64x122, .f32⟩ : BufTy).Contents (Elt F))⟩] concatenates_S64x4_S64x2_S64x122_S64x128_d1 : (⟨S64x128, .f32⟩ : BufTy).Contents (Elt F)))]

/-- the one after it, of the bias row; -/
abbrev opsRow : List (HloOp τ sig (Elt F)) := [StableHlo.reshape main_arg3 main_v4 (rfl : (.f32 : EltTy) = .f32) shapeCasts_S2_S1x2]

/-- and those after the TensorCore kernels, which put the result's rows in order. -/
abbrev opsOut : List (HloOp τ sig (Elt F)) :=
  [StableHlo.reshape main_v6 main_v7 (rfl : (.f32 : EltTy) = .f32) shapeCasts_S2048x16_S8x256x8x2,
   StableHlo.unary main_v7 main_v8 ((transpose S8x8x256x2 [0, 2, 1, 3] · transposes_S8x256x8x2_S8x8x256x2_0_2_1_3) : (⟨S8x256x8x2, .f32⟩ : BufTy).Contents (Elt F) → (⟨S8x8x256x2, .f32⟩ : BufTy).Contents (Elt F)),
   StableHlo.reshape main_v8 main_v9 (rfl : (.f32 : EltTy) = .f32) shapeCasts_S8x8x256x2_S16384x2]

/-- @main is its host operations, the SparseCore call and the two TensorCore calls, in order. -/
theorem main_eq (d : Dev nD) : main (F := F) d = (seq opsTab >>= fun _ => (K (F := F)).run d 0 >>= fun _ => seq opsRow >>= fun _ =>
    Prog.lift (.customCall (SparseCore.inner (Pipeline.entry 0)) ()) >>= fun _ =>
    Prog.lift (.customCall (SparseCore.inner (Pipeline.entry 1)) ()) >>= fun _ => seq opsOut >>= fun _ => pure ⟨⟩) := by
  rfl

/-- Every operation reads and writes arrays that stay. -/
theorem sub_hbm (op : HloOp τ sig (Elt F)) (h : op.bufs ⊆ StableHlo.tcRefs τ sig) : op.bufs ⊆ hbmRefs := fun b hb =>
  Finset.mem_filter.mpr ⟨h hb, by rw [op.no_scoped b hb]; decide⟩

/-- The operations that build the table use arrays that stay. -/
theorem opsTab_sub : ∀ op ∈ opsTab (F := F), op.bufs ⊆ hbmRefs := fun op hop => by
  refine sub_hbm op ?_
  simp only [List.mem_cons, List.not_mem_nil, or_false] at hop
  rcases hop with rfl | rfl | rfl | rfl <;> simp
/-- So does the one that lays out the bias row. -/
theorem opsRow_sub : ∀ op ∈ opsRow (F := F), op.bufs ⊆ hbmRefs := fun op hop => by
  refine sub_hbm op ?_
  simp only [List.mem_cons, List.not_mem_nil, or_false] at hop
  subst hop; simp
/-- So do those that order the result. -/
theorem opsOut_sub : ∀ op ∈ opsOut (F := F), op.bufs ⊆ hbmRefs := fun op hop => by
  refine sub_hbm op ?_
  simp only [List.mem_cons, List.not_mem_nil, or_false] at hop
  rcases hop with rfl | rfl | rfl <;> simp
/-- The operations that build the table claim no new array. -/
theorem opsTab_fresh : ∀ op ∈ opsTab (F := F), op.fresh = ∅ := fun op hop => by
  simp only [List.mem_cons, List.not_mem_nil, or_false] at hop
  rcases hop with rfl | rfl | rfl | rfl <;> rfl
/-- Nor does the one that lays out the bias row. -/
theorem opsRow_fresh : ∀ op ∈ opsRow (F := F), op.fresh = ∅ := fun op hop => by
  simp only [List.mem_cons, List.not_mem_nil, or_false] at hop
  subst hop; rfl
/-- Nor do those that order the result. -/
theorem opsOut_fresh : ∀ op ∈ opsOut (F := F), op.fresh = ∅ := fun op hop => by
  simp only [List.mem_cons, List.not_mem_nil, or_false] at hop
  rcases hop with rfl | rfl | rfl <;> rfl

/-! ## The contents of the arrays, step by step -/

variable (m : (ℓ : Loc nD τ sig) → Buf (Elt F) ℓ)

/-- At launch; -/
abbrev W0 (d : Dev nD) : Valuation τ sig (Elt F) := fun b => m (d, b)
/-- the table built; -/
abbrev W1 (d : Dev nD) : Valuation τ sig (Elt F) := after opsTab (W0 m d)
/-- its rows gathered, as `g`; -/
abbrev W2 (g : S2048x128.Idx → Elt F .f32) (d : Dev nD) : Valuation τ sig (Elt F) := Function.update (W1 m d) (Proc.devRef .tc main_v3) g
/-- the bias row; -/
abbrev W3 (g : S2048x128.Idx → Elt F .f32) (d : Dev nD) : Valuation τ sig (Elt F) := after opsRow (W2 m g d)
/-- the expanding kernel's result; the combining kernel's; -/
abbrev W4 (g : S2048x128.Idx → Elt F .f32) (d : Dev nD) : Valuation τ sig (Elt F) := aft1 (W3 m g) d
abbrev W5 (g : S2048x128.Idx → Elt F .f32) (d : Dev nD) : Valuation τ sig (Elt F) := aft2 (W4 m g) d
/-- the result. -/
abbrev W6 (g : S2048x128.Idx → Elt F .f32) (d : Dev nD) : Valuation τ sig (Elt F) := after opsOut (W5 m g d)

/-- The table that the SparseCore gathers from. -/
def tab (d : Dev nD) : Buf (Elt F) (tLoc d) := W1 m d (Proc.devRef .tc main_v2)

/-! ## The ghost state at launch -/

/-- The handshakes of the call, and the transfers of the two pipelines. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What each core keeps for its pipelines. -/
abbrev G (d : Dev nD) : sProp 𝕄 := iprop(pipeGhost (F := F) 0 d ∗ pipeGhost (F := F) 1 d)

/-- The state at launch is the handshakes' state and each core's pipeline state. -/
theorem hu₀ (tb : ∀ d : Dev nD, Buf (Elt F) (tLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m tb).x q thr) := by
  have hx : (iprop(emp) : sProp 𝕄) ⊢ bigSep Finset.univ fun thr : Thread nD τ => bigSep Finset.univ fun q : Fin 1 => (P m tb).x q thr :=
    BIBase.Entails.of_eq (((show (bigSep Finset.univ fun thr : Thread nD τ => bigSep Finset.univ fun q : Fin 1 => (P m tb).x q thr)
        = bigSep Finset.univ fun _ => iprop(emp) from bigSep_congr fun _ _ => bigSep_univ_of_subsingleton (0 : Fin 1)).trans
      (bigSep_emp_const _)).symm)
  have hG : iprop((bigSep Finset.univ fun c : Dev nD => bigSep Finset.univ fun p => Pipeline.cellsGhost (Pipeline.pin (pcfgs (F := F)) adm) (EP (F := F)) p c)
      ∗ (bigSep Finset.univ fun c : Dev nD => bigSep Finset.univ fun p => Pipeline.toksInit (Pipeline.pin (pcfgs (F := F)) adm) (EP (F := F)) p c))
      ⊢ (bigSep Finset.univ fun d : Dev nD => G (F := F) d : sProp 𝕄) := by
    rw [← bigSep_sep']
    refine bigSep_mono fun d _ => ?_
    rw [← bigSep_sep', show (Finset.univ : Finset (Fin 2)) = {0, 1} from by decide, SparseCore.bigSep_insert' (by decide), bigSep_singleton]
    exact BI.Entails.refl _
  unfold u₀
  iintro Hu
  ihave H := (ownU_pair (initOf (K (F := F)).hsCells (K (F := F)).hsToks) _) $$ Hu
  icases H with ⟨HH, HR⟩
  ihave HR := (own_pair_emb (embR : Emb (UPipe × Counters) 𝕄) _ _) $$ HR
  icases HR with ⟨HP, -⟩
  ihave HP := (show BI.own (((Emb.inl : Emb UPipe (UPipe × Counters)).trans (embR : Emb (UPipe × Counters) 𝕄)) _) ⊢ BI.own ((EP (F := F)) _)
    from BI.Entails.refl _) $$ HP
  imod (Pipeline.fund_ghost (Pipeline.pin (pcfgs (F := F)) adm) (EP (F := F)) pin_inj) $$ HP with HP
  imodintro
  isplitl [HH]; · iexact HH
  isplitl [HP]; · iapply hG; iexact HP
  iapply hx
  iempintro

/-! ## @main on the TensorCore -/

/-- What is left at the end: the arrays at `W6`, for some array that the SparseCore call may leave. -/
def FIN (d : Dev nD) : sProp 𝕄 :=
  iprop(∃ g : S2048x128.Idx → Elt F .f32, ⌜Good (tab m d) (m (sLoc d)) Finset.univ g⌝ ∗ held (d : Thread nD τ) hbmRefs (W6 m g d))

/-- The subject numbers are as at the start when the SparseCore call begins. -/
theorem keep_arg1 (d : Dev nD) : W1 m d (Proc.devRef .tc main_arg1) = m (sLoc d) := by
  unfold W1; after_results
/-- The gathered array is as at the start when the SparseCore call begins. -/
theorem keep_v3 (d : Dev nD) : W1 m d (Proc.devRef .tc main_v3) = m (oLoc d) := by
  unfold W1; after_results

variable [∀ e, Nonempty (Elt F e)] (ρ : Dev nD → PrngReg)

/-- @main runs, and leaves the arrays at their final contents. -/
theorem hmain (κ : GSem nD τ sig → ℕ) (d : Dev nD) :
    iprop((K (F := F)).ctx EH (P m (tab m)) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  have hubs := unscopedBufs_held (F := F) d (W0 m)
  rw [main_eq]
  unfold SparseCore.Cfg.tcRes SparseCore.Cfg.tcEnd
  iintro ⟨#Hctx, Hst, ⟨Hb, Hbufs, Hts, -⟩, ⟨Hg0, Hg1⟩⟩
  ihave Hbufs := (BIBase.Entails.of_eq hubs) $$ Hbufs
  ihave #Hlev := (SparseCore.Cfg.ctx_levAts (K := K (F := F)) κ) $$ Hctx
  iapply (StableHlo.wp_seq (defs := (K (F := F)).defs (D (F := F))) 𝒱 none Set.univ d hbmRefs _ opsTab opsTab_sub opsTab_fresh (W0 m d)) $$ [Hb Hbufs]
  · isplitl [Hb]; · iexact Hb
    iexact Hbufs
  iintro ⟨Hb, Hbufs⟩
  rw [wp_bind]
  iapply (step0 m (tab m) κ d (W1 m d) rfl (keep_arg1 m d) (keep_v3 m d))
  isplitr; · iexact Hctx
  isplitl [Hst]; · iexact Hst
  isplitl [Hbufs]; · iexact Hbufs
  iintro ⟨Hst, ⟨%g, %hg, Hbufs⟩⟩
  unfold SparseCore.Cfg.tcSt
  icases Hst with ⟨⟨%Wt, %hWt, HO⟩, Hst⟩
  rw [(K (F := F)).Otc_end d (le_refl 1)]
  iapply (StableHlo.wp_seq (defs := (K (F := F)).defs (D (F := F))) 𝒱 none Set.univ d hbmRefs _ opsRow opsRow_sub opsRow_fresh (W2 m g d)) $$ [Hb Hbufs]
  · isplitl [Hb]; · iexact Hb
    iexact Hbufs
  iintro ⟨Hb, Hbufs⟩
  rw [wp_bind]
  iapply (step1 d (W3 m g))
  isplitl [Hb Hbufs HO]
  · isplitl [Hb]; · iexact Hb
    isplitl [Hbufs]; · iexact Hbufs
    unfold idleTc
    iexists Wt
    isplitr; · ipureintro; exact hWt
    iexact HO
  isplitr; · iexact Hlev
  isplitl [Hg0]; · iexact Hg0
  iintro ⟨Hb, Hbufs, HO⟩
  rw [wp_bind]
  iapply (step2 d (W4 m g))
  isplitl [Hb Hbufs HO]
  · isplitl [Hb]; · iexact Hb
    isplitl [Hbufs]; · iexact Hbufs
    iexact HO
  isplitr; · iexact Hlev
  isplitl [Hg1]; · iexact Hg1
  iintro ⟨Hb, Hbufs, HO⟩
  iapply (StableHlo.wp_seq (defs := (K (F := F)).defs (D (F := F))) 𝒱 none Set.univ d hbmRefs _ opsOut opsOut_sub opsOut_fresh (W5 m g d)) $$ [Hb Hbufs]
  · isplitl [Hb]; · iexact Hb
    iexact Hbufs
  iintro ⟨Hb, Hbufs⟩
  rw [wp_pure]
  imodintro
  isplitl [HO Hst]
  · isplitl [HO]
    · unfold idleTc
      icases HO with ⟨%W', %hW', HO⟩
      iexists W'
      isplitr; · ipureintro; exact hW'
      iexact HO
    iexact Hst
  isplitl [Hbufs]
  · unfold FIN
    iexists g
    isplitr; · ipureintro; exact hg
    iexact Hbufs
  isplitl [Hb]; · iexact Hb
  iexact Hts

/-! ## The final memory -/

/-- The arrays at the end, for some array that the SparseCore call may leave. -/
def fq (d : Dev nD) (s' : Phys nD τ sig (Elt F)) : Prop :=
  ∃ g : S2048x128.Idx → Elt F .f32, Good (tab m d) (m (sLoc d)) Finset.univ g ∧ ∀ b ∈ hbmRefs, s'.mem.mem (d, b) = W6 m g d b

omit [∀ e, Nonempty (Elt F e)] in
/-- Arrays held at their final contents are so in memory. -/
theorem hfin (d : Dev nD) (s' : Phys nD τ sig (Elt F)) : iprop(FIN m d ∗ SI s') ⊢ (⌜fq m d s'⌝ : sProp 𝕄) := by
  unfold FIN StableHlo.held
  iintro ⟨⟨%g, %hg, H⟩, HSI⟩
  ihave %h := (SI_pointsTo_bufs_agree (qs := fun _ => fullShare) hbmRefs) $$ [HSI H]
  · isplitl [HSI]; · iexact HSI
    iexact H
  ipureintro
  exact ⟨g, hg, h⟩

/-- The final states: on every device the arrays as `fq` says, and every semaphore at zero. -/
def QC : PUnit × MemSt nD τ sig (Elt F) → Prop := fun r =>
  (∀ d : Dev nD, ∃ g : S2048x128.Idx → Elt F .f32, Good (tab m d) (m (sLoc d)) Finset.univ g ∧ ∀ b ∈ hbmRefs, r.2.mem (d, b) = W6 m g d b)
    ∧ r.2.sem = fun _ => 0

/-- Every fair execution of the program, from a memory whose subject numbers are in range, ends in such a state. -/
theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (tab m)) (A := ∅) facts v₀
    (fun q hq => match q with | 0 => nomatch hq)
    (fun q _ => match q with | 0 => tileObl m (tab m) facts hpre)
    (fun q _ => match q with | 0 => SparseCore.Cfg.VecSplit.of_plain (vecSplit m (tab m)))
    m ρ main (fun d => G (F := F) d) (FIN m) (u₀ (F := F)) (sep_elim_left.trans (hu₀ m (tab m))) (hmain m ρ) (fq m) (hfin m) (QC m)
    (fun _ h hz => ⟨h, hz⟩)

/-! ## The arrays at the end as functions of the arguments -/

/-- The table: the four weights and two biases of a subject, and zeros. -/
def tabOf (Wc : S64x2x2.Idx → Elt F .f32) (bc : S64x2.Idx → Elt F .f32) : S64x128.Idx → Elt F .f32 :=
  concatenate S64x128 1 [⟨S64x4, shapeCast S64x4 Wc shapeCasts_S64x2x2_S64x4⟩, ⟨S64x2, bc⟩,
    ⟨S64x122, broadcastInDim S64x122 ![] bcast_S_S64x122 (constant (F := F) S_ .f32 0x00000000#32)⟩] concatenates_S64x4_S64x2_S64x122_S64x128_d1

/-- The result from the inputs, the network's weights and bias, and the gathered rows. -/
def resOf (X : S16384x128.Idx → Elt F .f32) (Wn : S128x2.Idx → Elt F .f32) (bn : S2.Idx → Elt F .f32) (g : S2048x128.Idx → Elt F .f32) :
    S16384x2.Idx → Elt F .f32 :=
  shapeCast S16384x2 (transpose S8x8x256x2 [0, 2, 1, 3]
    (shapeCast S8x256x8x2 (combArr (expArr X Wn (shapeCast S1x2 bn shapeCasts_S2_S1x2)) g) shapeCasts_S2048x16_S8x256x8x2)
    transposes_S8x256x8x2_S8x8x256x2_0_2_1_3) shapeCasts_S8x8x256x2_S16384x2

omit [∀ e, Nonempty (Elt F e)] in
/-- The table that the SparseCore call reads is `tabOf` of the subjects' matrices and biases. -/
theorem tab_eq (d : Dev nD) : tab m d = tabOf (m ((d : Thread nD τ).loc main_arg4)) (m ((d : Thread nD τ).loc main_arg5)) := by
  unfold tab W1
  after_results
  rfl

omit [∀ e, Nonempty (Elt F e)] in
/-- The arguments end as they began. -/
theorem W6_arg (g : S2048x128.Idx → Elt F .f32) (d : Dev nD) (b : Ref sig .tc)
    (h : b ∈ ([main_arg0, main_arg1, main_arg2, main_arg3, main_arg4, main_arg5] : List (Ref sig .tc))) :
    W6 m g d (Proc.devRef .tc b) = m ((d : Thread nD τ).loc b) := by
  simp only [List.mem_cons, List.not_mem_nil, or_false] at h
  rcases h with rfl | rfl | rfl | rfl | rfl | rfl <;>
  · unfold W6 W5 W4 W3 W2 W1
    after_results
    rfl

omit [∀ e, Nonempty (Elt F e)] in
/-- The result ends at `resOf` of the arguments and the gathered array. -/
theorem W6_out (g : S2048x128.Idx → Elt F .f32) (d : Dev nD) :
    W6 m g d (Proc.devRef .tc main_v9) = resOf (m ((d : Thread nD τ).loc main_arg0)) (m ((d : Thread nD τ).loc main_arg2))
      (m ((d : Thread nD τ).loc main_arg3)) g := by
  have h0 : ofVal (W3 m g) d main_arg0 = m ((d : Thread nD τ).loc main_arg0) := by
    unfold ofVal W3 W2 W1
    after_results
    rfl
  have h2 : ofVal (W3 m g) d main_arg2 = m ((d : Thread nD τ).loc main_arg2) := by
    unfold ofVal W3 W2 W1
    after_results
    rfl
  have h4 : ofVal (W3 m g) d main_v4 = shapeCast S1x2 (m ((d : Thread nD τ).loc main_arg3)) shapeCasts_S2_S1x2 := by
    unfold ofVal W3 W2 W1
    after_results
    rfl
  have h5 : ofVal (W4 m g) d main_v5 = expArr (m ((d : Thread nD τ).loc main_arg0)) (m ((d : Thread nD τ).loc main_arg2))
      (shapeCast S1x2 (m ((d : Thread nD τ).loc main_arg3)) shapeCasts_S2_S1x2) := by
    rw [← h0, ← h2, ← h4]
    exact Function.update_self _ _ _
  have h3 : ofVal (W4 m g) d main_v3 = g := by
    refine (Function.update_of_ne (StableHlo.devRef_ne_of_ne (by decide)) _ _).trans ?_
    unfold W3 W2
    after_results
    exact Function.update_self _ _ _
  have h6 : W5 m g d (Proc.devRef .tc main_v6) = combArr (expArr (m ((d : Thread nD τ).loc main_arg0)) (m ((d : Thread nD τ).loc main_arg2))
      (shapeCast S1x2 (m ((d : Thread nD τ).loc main_arg3)) shapeCasts_S2_S1x2)) g := by
    rw [← h5]
    conv_rhs => rw [← h3]
    exact Function.update_self _ _ _
  unfold W6
  after_results
  rw [h6]
  rfl

end Cert.Proof.K

end
-- ==== Proof.Frames.lean ====
/-
  The claims that only say a program runs: the precondition read as a bound on every subject number, and the frames of
  the kernel, of the kernel over the extended reals, and of the reference.
-/
module

public import proofs.«01_k».proof.Defs
public import proofs.«01_k».proof.Proof.Run
public import proofs.«01_k».proof.Proof.Gen.Kernel
public import proofs.«01_k».proof.Proof.Gen.Pre_ids_in_range
public import proofs.«01_k».proof.Proof.Gen.ReferenceIdeal.Run
public import Idealize.ShloMosaic.Lib.ReduceAll
public import Idealize.ShloMosaic.Lib.StableHlo.RunHlo

@[expose] public section

noncomputable section

namespace Cert.Proof.K

open Idealize.ShloMosaic Idealize.ShloMosaic.TcCoe Idealize.SL.Sem
open Cert.KernelIdeal

/-- A word that is non-negative and below 64 as a signed number is below 64 as an unsigned one. -/
theorem lt_of_checks (v : BitVec 32) (h : IntOp.andi (IntOp.cmpi .sge v 0#32) (IntOp.cmpi .slt v 64#32) = 1#1) : v.toNat < 64 := by
  have both : ∀ p q : Bool, IntOp.andi (BitVec.ofBool p) (BitVec.ofBool q) = 1#1 → p = true ∧ q = true := by decide
  obtain ⟨h0, h1⟩ := both _ _ h
  simp only [BitVec.sle_eq_decide, BitVec.slt_eq_decide, decide_eq_true_eq, BitVec.toInt_eq_toNat_cond, BitVec.toNat_ofNat,
    Nat.reducePow, Nat.reduceMod] at h0 h1
  omega

/-- The precondition, a conjunction over all subject numbers, at one of them. -/
theorem ids_lt {F : FTy → Type} [FloatOps F] (x : FVec F Pre_ids_in_range.S16384x128 .f32) (sid : IVec Pre_ids_in_range.S16384 32)
    (w : FVec F Pre_ids_in_range.S128x2 .f32) (b : FVec F Pre_ids_in_range.S2 .f32) (wc : FVec F Pre_ids_in_range.S64x2x2 .f32)
    (bc : FVec F Pre_ids_in_range.S64x2 .f32) (h : Pre_ids_in_range.fn x sid w b wc bc = fun _ => 1#1) (i : Pre_ids_in_range.S16384.Idx) :
    (sid i).toNat < 64 := by
  have e := congrFun h (fun a => a.elim0)
  dsimp only [Pre_ids_in_range.fn] at e
  exact lt_of_checks _ (Host.reduce_andi_all _ _ _ _ _ e i)

/-- The six arguments of a device end as they began. -/
abbrev ArgsKept {F : FTy → Type} [FloatOps F] (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

variable {F : FTy → Type} [FloatOps F] [∀ e, Nonempty (Elt F e)] (m : (ℓ : Loc nD τ sig) → Buf (Elt F) ℓ)

/-- The run for any float values: the arguments are kept, the counters are zero, and the result is `resOf` of the
    arguments and of some gathered array that is right on the columns that count. -/
theorem run_all (ρ : Dev nD → PrngReg) (hpre : PreOK m) :
    θ_run (Cert.KernelIdeal.defs (F := F)) (Cert.KernelIdeal.threads (F := F)) ⟨m, fun _ => 0, ρ⟩ fun r =>
      (∀ c : Dev nD, ArgsKept m r.2.mem c ∧ ∃ g : S2048x128.Idx → Elt F .f32, Good (tab m c) (m (sLoc c)) Finset.univ g
        ∧ r.2.mem ((c.tc : Thread nD τ).loc main_v9) = resOf (m ((c.tc : Thread nD τ).loc main_arg0)) (m ((c.tc : Thread nD τ).loc main_arg2))
            (m ((c.tc : Thread nD τ).loc main_arg3)) g)
      ∧ r.2.sem = fun _ => 0 := by
  refine θ_run_mono (run_main m ρ hpre) ?_
  rintro r ⟨h, hs⟩
  refine ⟨fun c => ?_, hs⟩
  obtain ⟨g, hg, hW⟩ := h c
  have keep : ∀ b : Ref sig .tc, b ∈ ([main_arg0, main_arg1, main_arg2, main_arg3, main_arg4, main_arg5] : List (Ref sig .tc)) →
      Proc.devRef .tc b ∈ hbmRefs → r.2.mem ((c.tc : Thread nD τ).loc b) = m ((c.tc : Thread nD τ).loc b) :=
    fun b hb hm => (hW _ hm).trans (W6_arg m g c b hb)
  exact ⟨⟨keep _ (by decide) (by decide), keep _ (by decide) (by decide), keep _ (by decide) (by decide), keep _ (by decide) (by decide),
    keep _ (by decide) (by decide), keep _ (by decide) (by decide)⟩, g, hg, (hW (Proc.devRef .tc main_v9) (by decide)).trans (W6_out m g c)⟩

/-- The two printings of the program have one table of bodies. -/
theorem defs₀_same : Cert.Kernel.defs₀ (F := Bits) = Cert.KernelIdeal.defs₀ (F := Bits) := by
  funext p l a
  match p, l, a with
  | .tc, 0, _ => rfl
  | .tc, 1, (_, _) => rfl
  | .tc, 2, (_, _) => rfl
  | .scScalar _, 0, _ => rfl
  | .scScalar _, 1, _ => rfl
  | .scScalar _, 2, _ => rfl
  | .scVector _ _, 0, _ => rfl
  | .scVector _ _, 1, _ => rfl
  | .scVector _ _, 2, _ => rfl

/-- And so one table of all labels. -/
theorem defs_same : Cert.Kernel.defs (F := Bits) = Cert.KernelIdeal.defs (F := Bits) :=
  congrArg (fun t => (Cert.KernelIdeal.sc (F := Bits)).defs (Pipeline.defs (Cert.KernelIdeal.pcfgs (F := Bits)) t)) defs₀_same

/-- The kernel runs, its arguments end unchanged and every semaphore counter ends at zero. -/
theorem frame_kernel : Cert.quiescent_Kernel := by
  intro m ρ hp
  have h := run_all (F := Bits) m ρ fun d x => ids_lt _ _ _ _ _ _ (hp d) x
  rw [← defs_same] at h
  exact θ_run_mono h fun _ h => ⟨fun c => (h.1 c).1, h.2⟩

/-- So does the kernel over the extended reals. -/
theorem frame_ideal : Cert.quiescent_KernelIdeal := fun m ρ hp =>
  (θ_run Cert.KernelIdeal.defs _ _).mono (fun _ h => ⟨fun c => (h.1 c).1, h.2⟩)
    (run_all (F := Ideal) m ρ fun d x => ids_lt _ _ _ _ _ _ (hp d) x)

/-- The reference runs, its arguments end unchanged; it has no semaphore. -/
theorem frame_reference : Cert.quiescent_ReferenceIdeal := fun m ρ _ =>
  θ_run_mono (Cert.ReferenceIdeal.Value.run (F := Ideal) m ρ) fun r h => ⟨fun c => (h c).2, sem_eq_zero_of_no_sems (by decide) r.2⟩

end Cert.Proof.K

end
-- ==== Proof.Expand.lean ====
/-
  What the expanding kernel computes over the extended reals, entry by entry: lanes zero to three of a sample carry its two
  linear outputs (each twice), lanes four and five carry one, the others zero.
-/
module

public import proofs.«01_k».proof.Proof.Body
public import Idealize.ShloMosaic.Lib.Pointwise
public import Idealize.ShloMosaic.Lib.Pipeline.Value

@[expose] public section

noncomputable section

namespace Cert.Proof.K

open Idealize.ShloMosaic
open Cert.KernelIdeal Cert.KernelIdeal.Gen

/-- The word of a bit, as an extended real, is one or zero. -/
theorem word_ite (p : Prop) [Decidable p] : (((if p then 1#32 else 0#32 : BitVec 32).toInt : ℝ) : EReal) = if p then 1 else 0 := by
  split <;> simp

/-- The copying matrix: row `r` is one at the two lanes that stand for output `r`. -/
theorem selMat_apply (r : Fin 2) (c : Fin 16) : selMat (F := Ideal) (ix2 r c) = if c.val / 2 = r.val then (1 : EReal) else 0 := by
  obtain ⟨M, hM, hw⟩ : ∃ M : IVec S2x16 32, selMat (F := Ideal) = sitofp .f32 M ∧
      ∀ (r : Fin 2) (c : Fin 16), M (ix2 r c) = if c.val / 2 = r.val then 1#32 else 0#32 := ⟨_, rfl, by decide +kernel⟩
  rw [hM]
  exact (congrArg (fun w : BitVec 32 => ((w.toInt : ℝ) : EReal)) (hw r c)).trans (word_ite _)

/-- The offset row: the bias's two entries through the copying matrix, and one at lanes four and five. -/
theorem offRow_apply (B : S1x2.Idx → EReal) (c : Fin 16) :
    offRow (F := Ideal) B (ix2 0 c) = (∑ k : Fin 2, B (ix2 0 k) * selMat (F := Ideal) (ix2 k c)) + if c.val / 2 = 2 then (1 : EReal) else 0 := by
  obtain ⟨M, hM, hw⟩ : ∃ M : IVec S1x16 32, offRow (F := Ideal) B =
        addf (matmul dot_S1x2_S2x16_S1x16_1_0_0_1_n_n none (shapeCast S1x2 (α := EReal) B shapeCasts_S1x2_S1x2) (selMat (F := Ideal)) (constant S1x16 .f32 0x00000000#32)) (sitofp .f32 M) ∧
      ∀ (c : Fin 16), M (ix2 0 c) = if c.val / 2 = 2 then 1#32 else 0#32 := ⟨_, rfl, by decide +kernel⟩
  rw [hM]
  pointwise
  exact congrArg _ ((congrArg (fun w : BitVec 32 => ((w.toInt : ℝ) : EReal)) (hw c)).trans (word_ite _))

/-- Lane `c` of a sample with inputs `x`. -/
def lane (x : Fin 128 → EReal) (W : S128x2.Idx → EReal) (B : S1x2.Idx → EReal) (c : ℕ) : EReal :=
  if h : c / 2 < 2 then (∑ d : Fin 128, x d * W (ix2 d ⟨c / 2, h⟩)) + B (ix2 0 ⟨c / 2, h⟩) else if c / 2 = 2 then 1 else 0

/-- A sum of two terms weighted by a column of the copying matrix. -/
theorem sum_sel (f : Fin 2 → EReal) (c : Fin 16) :
    (∑ k : Fin 2, f k * selMat (F := Ideal) (ix2 k c)) = if h : c.val / 2 < 2 then f ⟨c.val / 2, h⟩ else 0 := by
  simp only [selMat_apply, mul_ite, mul_one, mul_zero]
  split
  · rename_i h
    exact (Finset.sum_eq_single (⟨c.val / 2, h⟩ : Fin 2) (fun k _ hk => if_neg fun e => hk (Fin.ext e.symm)) (fun h => absurd (Finset.mem_univ _) h)).trans
      (if_pos rfl)
  · rename_i h
    exact Finset.sum_eq_zero fun k _ => if_neg fun (e : c.val / 2 = k.val) => h (by omega)

/-- Row `i` of a group of 256 samples: the lanes of sample `o + i`. -/
theorem rowsBlk_apply (o : ℕ) (h : S4096x128.Slices ![o, 0] S256x128) (X : S4096x128.Idx → EReal) (W : S128x2.Idx → EReal)
    (B : S1x2.Idx → EReal) (i : Fin 256) (c : Fin 16) (n : Fin 4096) (hn : n.val = o + i.val) :
    rowsBlk (F := Ideal) o h X W B (ix2 i c) = lane (fun d => X (ix2 n d)) W B c.val := by
  obtain ⟨n, hlt⟩ := n
  obtain rfl : n = o + i.val := hn
  have e : rowsBlk (F := Ideal) o h X W B (ix2 i c)
      = (∑ d : Fin 128, X (ix2 ⟨o + i.val, hlt⟩ d) * (∑ k : Fin 2, W (ix2 d k) * selMat (F := Ideal) (ix2 k c))) + offRow (F := Ideal) B (ix2 0 c) := by
    unfold rowsBlk
    pointwise [k1_pay7, k1_pay5]
  rw [e, offRow_apply]
  simp only [sum_sel]
  unfold lane
  split
  · rename_i h
    rw [if_neg (by omega), add_zero]
  · simp

/-- The expanding kernel's block: row `i`, lane `l` is a lane of the sample that the kernel's packing puts there. -/
theorem expBlk_apply (X : S4096x128.Idx → EReal) (W : S128x2.Idx → EReal) (B : S1x2.Idx → EReal) (i : Fin 512) (l : Fin 128)
    (n : Fin 4096) (hn : n.val = 2048 * (i.val / 256) + 256 * (l.val / 16) + i.val % 256) :
    expBlk (F := Ideal) X W B (ix2 i l) = lane (fun d => X (ix2 n d)) W B (l.val % 16) := by
  let piece (h : Fin 2) (p : Fin 8) : S256x16.Idx → EReal := rowsBlk (F := Ideal) (256 * (8 * h.val + p.val)) (slices_rows ⟨8 * h.val + p.val, by omega⟩) X W B
  let half (h : Fin 2) : S256x128.Idx → EReal := concatenate S256x128 1 (List.ofFn fun p : Fin 8 => ⟨S256x16, piece h p⟩) concatenates_S256x16_S256x16_S256x16_S256x16_S256x16_S256x16_S256x16_S256x16_S256x128_d1
  have e : expBlk (F := Ideal) X W B = concatenate S512x128 0 (List.ofFn fun h : Fin 2 => ⟨S256x128, half h⟩) concatenates_S256x128_S256x128_S512x128_d0 := rfl
  refine (congrFun e _).trans ((concatenate_ofFn_apply (t := S512x128) (s₁ := S256x128) 0 half concatenates_S256x128_S256x128_S512x128_d0 rfl 256 rfl
    (ix2 i l) ⟨i.val / 256, by omega⟩ rfl (ix2 ⟨i.val % 256, by omega⟩ l) rfl ?_).trans ?_)
  · intro b hb
    match b with
    | 0 => exact absurd rfl hb
    | 1 => rfl
  · refine (concatenate_ofFn_apply (t := S256x128) (s₁ := S256x16) 1 (piece _)
      concatenates_S256x16_S256x16_S256x16_S256x16_S256x16_S256x16_S256x16_S256x16_S256x128_d1 rfl 16 rfl
      (ix2 ⟨i.val % 256, by omega⟩ l) ⟨l.val / 16, by omega⟩ rfl (ix2 ⟨i.val % 256, by omega⟩ ⟨l.val % 16, by omega⟩) rfl ?_).trans ?_
    · intro b hb
      match b with
      | 0 => rfl
      | 1 => exact absurd rfl hb
    · exact rowsBlk_apply _ _ X W B _ _ n (by simp only; omega)

end Cert.Proof.K

end
-- ==== Proof.Combine.lean ====
/-
  What the combining kernel computes over the extended reals, entry by entry: three products of a lane of the linear outputs and a
  gathered column, summed.
-/
module

public import proofs.«01_k».proof.Proof.Expand

@[expose] public section

noncomputable section

namespace Cert.Proof.K

open Idealize.ShloMosaic
open Cert.KernelIdeal Cert.KernelIdeal.Gen

/-- The lanes that the combining matrix adds into column `c`: of sample `c / 2`, the first six, every other one from `c % 2`. -/
def picked (r c : ℕ) : Prop := r / 16 = c / 2 ∧ r % 16 < 6 ∧ r % 2 = c % 2

instance (r c : ℕ) : Decidable (picked r c) := by unfold picked; infer_instance

/-- The picked lanes of a column are three. -/
theorem picked_filter (c : Fin 16) :
    (Finset.univ.filter fun r : Fin 128 => picked r.val c.val) = {⟨16 * (c.val / 2) + c.val % 2, by omega⟩, ⟨16 * (c.val / 2) + 2 + c.val % 2, by omega⟩, ⟨16 * (c.val / 2) + 4 + c.val % 2, by omega⟩} := by
  ext r
  simp only [Finset.mem_filter, Finset.mem_univ, true_and, Finset.mem_insert, Finset.mem_singleton, Fin.ext_iff]
  unfold picked
  constructor
  · rintro ⟨h1, h2, h3⟩; omega
  · rintro (h | h | h) <;> refine ⟨?_, ?_, ?_⟩ <;> omega

/-- A sum over the lanes weighted by a column of the combining matrix has three terms. -/
theorem sum_picked (t : Fin 128 → EReal) (c : Fin 16) :
    (∑ r : Fin 128, t r * if picked r.val c.val then (1 : EReal) else 0)
      = t ⟨16 * (c.val / 2) + c.val % 2, by omega⟩ + t ⟨16 * (c.val / 2) + 2 + c.val % 2, by omega⟩ + t ⟨16 * (c.val / 2) + 4 + c.val % 2, by omega⟩ := by
  simp only [mul_ite, mul_one, mul_zero]
  rw [← Finset.sum_filter, picked_filter, Finset.sum_insert, Finset.sum_insert, Finset.sum_singleton]
  · exact (add_assoc _ _ _).symm
  · simp only [Finset.mem_singleton, Fin.ext_iff]; omega
  · simp only [Finset.mem_insert, Finset.mem_singleton, Fin.ext_iff]; omega

/-- The combining kernel's block at a row and a column. -/
theorem combBlk_apply (Y G : S1024x128.Idx → EReal) (i : Fin 1024) (c : Fin 16) (t : Fin 128 → EReal) (ht : ∀ r, t r = Y (ix2 i r) * G (ix2 i r)) :
    combBlk (F := Ideal) Y G (ix2 i c)
      = t ⟨16 * (c.val / 2) + c.val % 2, by omega⟩ + t ⟨16 * (c.val / 2) + 2 + c.val % 2, by omega⟩ + t ⟨16 * (c.val / 2) + 4 + c.val % 2, by omega⟩ := by
  obtain ⟨M, hM, hw⟩ : ∃ M : IVec S128x16 32, combBlk (F := Ideal) Y G = (matmul dot_S1024x128_S128x16_S1024x16_1_0_0_1_n_n none
        (mulf (shapeCast S1024x128 (α := EReal) Y shapeCasts_S1024x128_S1024x128) (shapeCast S1024x128 (α := EReal) G shapeCasts_S1024x128_S1024x128))
        (sitofp .f32 M) (constant S1024x16 .f32 0x00000000#32) : FVec Ideal S1024x16 .f32) ∧
      ∀ (r : Fin 128) (c : Fin 16), M (ix2 r c) = if picked r.val c.val then 1#32 else 0#32 := ⟨_, rfl, by decide +kernel⟩
  have hs (r : Fin 128) : sitofp (F := Ideal) .f32 M (ix2 r c) = if picked r.val c.val then (1 : EReal) else 0 :=
    (congrArg (fun w : BitVec 32 => ((w.toInt : ℝ) : EReal)) (hw r c)).trans (word_ite _)
  rw [hM, ← sum_picked]
  generalize sitofp (F := Ideal) .f32 M = S at hs ⊢
  pointwise
  exact Finset.sum_congr rfl fun r _ => by rw [ht, hs]

end Cert.Proof.K

end
-- ==== Proof.Result.lean ====
/-
  The program's result over the extended reals, entry by entry: each sample's two linear outputs through its subject's two by two
  matrix, and its subject's bias.
-/
module

public import proofs.«01_k».proof.Proof.Combine
public import proofs.«01_k».proof.Proof.Run

@[expose] public section

noncomputable section

namespace Cert.Proof.K

open Idealize.ShloMosaic
open Cert.KernelIdeal Cert.KernelIdeal.Gen

/-- Columns zero to three of the table: the subjects' matrices, row by row. -/
theorem tabOf_matrix (Wc : S64x2x2.Idx → EReal) (bc : S64x2.Idx → EReal) (s : Fin 64) (a b : Fin 2) :
    tabOf (F := Ideal) Wc bc (ix2 s ⟨2 * a.val + b.val, by omega⟩) = Wc (ix3 s a b) := by
  unfold tabOf
  pointwise
  exact dif_pos (by omega)

/-- Columns four and five of the table: the subjects' biases. -/
theorem tabOf_bias (Wc : S64x2x2.Idx → EReal) (bc : S64x2.Idx → EReal) (s : Fin 64) (b : Fin 2) :
    tabOf (F := Ideal) Wc bc (ix2 s ⟨4 + b.val, by omega⟩) = bc (ix2 s b) := by
  unfold tabOf
  pointwise

/-- The expanding kernel's whole result: row `R`, lane `l` is a lane of the sample that the packing puts there. -/
theorem expArr_apply (X : S16384x128.Idx → EReal) (W : S128x2.Idx → EReal) (B : S1x2.Idx → EReal) (R : Fin 2048) (l : Fin 128)
    (n : Fin 16384) (hn : n.val = 2048 * (R.val / 256) + 256 * (l.val / 16) + R.val % 256) :
    expArr (F := Ideal) X W B (ix2 R l) = lane (fun d => X (ix2 n d)) W B (l.val % 16) := by
  unfold expArr
  have e1 : ValueIdx.ix2 (Fin.ofNat 512 (ix2 R l 0).val) (Fin.ofNat 128 (ix2 R l 1).val) = ix2 (⟨R.val % 512, by omega⟩ : Fin 512) l :=
    ix2_ext _ _ rfl (Nat.mod_eq_of_lt l.isLt)
  rw [e1, expBlk_apply _ _ _ _ _ ⟨2048 * (R.val % 512 / 256) + 256 * (l.val / 16) + R.val % 512 % 256, by omega⟩ rfl]
  congr 1
  funext d
  refine congrArg X (ix2_ext _ _ ?_ (Nat.mod_eq_of_lt d.isLt))
  refine (Nat.mod_eq_of_lt ?_).trans ?_
  · show 4096 * (R.val / 512) + (2048 * (R.val % 512 / 256) + 256 * (l.val / 16) + R.val % 512 % 256) < 16384
    omega
  · show 4096 * (R.val / 512) + (2048 * (R.val % 512 / 256) + 256 * (l.val / 16) + R.val % 512 % 256) = n.val
    omega

/-- The combining kernel's whole result at row `R`, column `c`. -/
theorem combArr_apply (Y G : S2048x128.Idx → EReal) (R : Fin 2048) (c : Fin 16) (t : Fin 128 → EReal) (ht : ∀ r, t r = Y (ix2 R r) * G (ix2 R r)) :
    combArr (F := Ideal) Y G (ix2 R c)
      = t ⟨16 * (c.val / 2) + c.val % 2, by omega⟩ + t ⟨16 * (c.val / 2) + 2 + c.val % 2, by omega⟩ + t ⟨16 * (c.val / 2) + 4 + c.val % 2, by omega⟩ := by
  unfold combArr
  have e1 : ValueIdx.ix2 (Fin.ofNat 1024 (ix2 R c 0).val) (Fin.ofNat 16 (ix2 R c 1).val) = ix2 (⟨R.val % 1024, by omega⟩ : Fin 1024) c :=
    ix2_ext _ _ rfl (Nat.mod_eq_of_lt c.isLt)
  have e2 (r : Fin 128) : ValueIdx.ix2 (Fin.ofNat 2048 (1024 * (R.val / 1024) + R.val % 1024)) (Fin.ofNat 128 r.val) = ix2 R r :=
    ix2_ext _ _ ((Nat.mod_eq_of_lt (by omega)).trans (by show 1024 * (R.val / 1024) + R.val % 1024 = R.val; omega)) (Nat.mod_eq_of_lt r.isLt)
  rw [e1]
  refine combBlk_apply _ _ _ _ t fun r => (ht r).trans ?_
  rw [← e2]
  rfl

/-- What the program is to compute: entry `k` of a sample with inputs `x` and subject `s`. -/
def entry (x : Fin 128 → EReal) (Wn : S128x2.Idx → EReal) (bn : S2.Idx → EReal) (Wc : S64x2x2.Idx → EReal) (bc : S64x2.Idx → EReal)
    (s : Fin 64) (k : Fin 2) : EReal :=
  (∑ a : Fin 2, ((∑ d : Fin 128, x d * Wn (ix2 d a)) + bn (ix1 a)) * Wc (ix3 s a k)) + bc (ix2 s k)

/-- A lane below four holds a linear output. -/
theorem lane_output (x : Fin 128 → EReal) (W : S128x2.Idx → EReal) (B : S1x2.Idx → EReal) (l : ℕ) (a : Fin 2) (h : l / 2 = a.val) :
    lane x W B l = (∑ d : Fin 128, x d * W (ix2 d a)) + B (ix2 0 a) := by
  unfold lane
  obtain ⟨a, ha⟩ := a
  obtain rfl : l / 2 = a := h
  rw [dif_pos ha]

/-- Lanes four and five hold one. -/
theorem lane_one (x : Fin 128 → EReal) (W : S128x2.Idx → EReal) (B : S1x2.Idx → EReal) (l : ℕ) (h : l / 2 = 2) : lane x W B l = 1 := by
  unfold lane
  rw [dif_neg (by omega), if_pos h]

/-- The program's result, of gathered rows that are right on the columns that count. -/
theorem resOf_apply (X : S16384x128.Idx → EReal) (Wn : S128x2.Idx → EReal) (bn : S2.Idx → EReal) (Wc : S64x2x2.Idx → EReal)
    (bc : S64x2.Idx → EReal) (sid : S16384.Idx → BitVec 32) (g : S2048x128.Idx → EReal)
    (hg : Good (tabOf (F := Ideal) Wc bc) sid Finset.univ g) (n : Fin 16384) (k : Fin 2) (s : Fin 64) (hs : (sid (ix1 n)).toNat = s.val) :
    resOf (F := Ideal) X Wn bn g (ix2 n k) = entry (fun d => X (ix2 n d)) Wn bn Wc bc s k := by
  obtain ⟨B, hB⟩ : ∃ B : S1x2.Idx → EReal, B = shapeCast S1x2 bn shapeCasts_S2_S1x2 := ⟨_, rfl⟩
  have hBa (a : Fin 2) : B (ix2 0 a) = bn (ix1 a) := by
    rw [hB]
    pointwise
  have hR : n.val / 2048 * 256 + n.val % 256 < 2048 := by omega
  have hl (j : Fin 6) : 16 * (n.val / 256 % 8) + j.val < 128 := by omega
  have key (j : Fin 6) : expArr (F := Ideal) X Wn B (ix2 ⟨_, hR⟩ ⟨_, hl j⟩) * g (ix2 ⟨_, hR⟩ ⟨_, hl j⟩)
      = lane (fun d => X (ix2 n d)) Wn B j.val * tabOf (F := Ideal) Wc bc (ix2 s ⟨j.val, by omega⟩) := by
    rw [expArr_apply X Wn B ⟨_, hR⟩ ⟨_, hl j⟩ n (by simp only; omega)]
    have hj : (16 * (n.val / 256 % 8) + j.val) % 16 = j.val := by omega
    have hgj := hg (ix2 ⟨_, hR⟩ ⟨_, hl j⟩) (Finset.mem_univ _) (by show (16 * (n.val / 256 % 8) + j.val) % 16 < 6; omega)
    rw [hgj]
    have hn : sidAt sid (2048 * ((n.val / 2048 * 256 + n.val % 256) / 256) + 256 * ((16 * (n.val / 256 % 8) + j.val) / 16)
        + (n.val / 2048 * 256 + n.val % 256) % 256) = s.val := by
      rw [← hs, show 2048 * ((n.val / 2048 * 256 + n.val % 256) / 256) + 256 * ((16 * (n.val / 256 % 8) + j.val) / 16)
        + (n.val / 2048 * 256 + n.val % 256) % 256 = n.val by omega]
      unfold sidAt
      rw [show Fin.ofNat 16384 n.val = n from Fin.ext (Nat.mod_eq_of_lt n.isLt), ix1_eq_valueIdx]
    refine congrArg₂ (· * ·) (congrArg (lane _ _ _) hj) ?_
    refine congrArg (tabOf (F := Ideal) Wc bc) (ix2_ext _ _ ?_ ?_)
    · refine (congrArg (· % 64) hn).trans (Nat.mod_eq_of_lt s.isLt)
    · exact (congrArg (· % 128) hj).trans (Nat.mod_eq_of_lt (by omega))
  have e : resOf (F := Ideal) X Wn bn g (ix2 n k) = combArr (F := Ideal) (expArr (F := Ideal) X Wn B) g
      (ix2 ⟨n.val / 2048 * 256 + n.val % 256, hR⟩ ⟨n.val / 256 % 8 * 2 + k.val, by omega⟩) := by
    rw [hB]
    unfold resOf
    pointwise
  have hk0 : (⟨16 * ((n.val / 256 % 8 * 2 + k.val) / 2) + (n.val / 256 % 8 * 2 + k.val) % 2, by omega⟩ : Fin 128) = ⟨_, hl ⟨k.val, by omega⟩⟩ :=
    Fin.ext (by simp only; omega)
  have hk1 : (⟨16 * ((n.val / 256 % 8 * 2 + k.val) / 2) + 2 + (n.val / 256 % 8 * 2 + k.val) % 2, by omega⟩ : Fin 128) = ⟨_, hl ⟨2 + k.val, by omega⟩⟩ :=
    Fin.ext (by simp only; omega)
  have hk2 : (⟨16 * ((n.val / 256 % 8 * 2 + k.val) / 2) + 4 + (n.val / 256 % 8 * 2 + k.val) % 2, by omega⟩ : Fin 128) = ⟨_, hl ⟨4 + k.val, by omega⟩⟩ :=
    Fin.ext (by simp only; omega)
  have hw0 : tabOf (F := Ideal) Wc bc (ix2 s ⟨k.val, by omega⟩) = Wc (ix3 s 0 k) :=
    (congrArg (fun j : Fin 128 => tabOf (F := Ideal) Wc bc (ix2 s j)) (Fin.ext (by simp))).trans (tabOf_matrix Wc bc s 0 k)
  have hw1 : tabOf (F := Ideal) Wc bc (ix2 s ⟨2 + k.val, by omega⟩) = Wc (ix3 s 1 k) :=
    (congrArg (fun j : Fin 128 => tabOf (F := Ideal) Wc bc (ix2 s j)) (Fin.ext (by simp))).trans (tabOf_matrix Wc bc s 1 k)
  rw [e, combArr_apply _ _ _ _ _ fun _ => rfl]
  simp only
  rw [hk0, hk1, hk2, key, key, key]
  simp only
  rw [lane_output _ _ _ _ 0 (by simp; omega), lane_output _ _ _ _ 1 (by simp; omega), lane_one _ _ _ _ (by omega), hw0, hw1, tabOf_bias, one_mul, hBa, hBa]
  unfold entry
  rw [Fin.sum_univ_two]

end Cert.Proof.K

end
-- ==== Proof.Reference.lean ====
/-
  The reference's result over the extended reals, entry by entry, where every subject number is below 64.
-/
module

public import proofs.«01_k».proof.Proof.Result
public import proofs.«01_k».proof.Proof.Gen.ReferenceIdeal.Run
public import Idealize.ShloMosaic.Lib.ReduceAll

@[expose] public section

noncomputable section

namespace Cert.Proof.K

open Idealize.ShloMosaic
open Cert.ReferenceIdeal Cert.ReferenceIdeal.Facts₀

section
variable [Cert.ReferenceIdeal.Facts₀]

/-- The reference's row numbers: the subject numbers, those below zero counted from the end. -/
def rowIdx (sid : IVec S16384 32) : IVec S16384x1 32 :=
  broadcastInDim S16384x1 ![0] bcast_S16384_S16384x1_0
    (select (cmpi .slt sid (broadcastInDim S16384 ![] bcast_S_S16384 (constantI S_ 32 0#32)))
      (addi sid (broadcastInDim S16384 ![] bcast_S_S16384 (constantI S_ 32 64#32))) sid)

/-- The reference's check that a row number names a row. -/
def rowOk (sid : IVec S16384 32) : IVec S16384x1 1 :=
  andi (cmpi .sge (rowIdx sid) (broadcastInDim S16384x1 ![] bcast_S_S16384x1 (constantI S_ 32 0#32)))
    (cmpi .sle (rowIdx sid) (broadcastInDim S16384x1 ![0, 1] bcast_S1x1_S16384x1_0_1 (broadcastInDim S1x1 ![1] bcast_S1_S1x1_1 (constantI S1 32 63#32))))

/-- The check, one bit per sample. -/
def allOk (sid : IVec S16384 32) : IVec S16384 1 :=
  Host.reduce IntOp.andi (rowOk sid) (constantI S_ 1 1#1) reducesTo_S16384x1_S16384_d1 h_S_

/-- The subjects' matrices at the samples. -/
def matAt (Wc : S64x2x2.Idx → EReal) (sid : IVec S16384 32) : S16384x2x2.Idx → EReal :=
  select (broadcastInDim S16384x2x2 ![0] bcast_S16384_S16384x2x2_0 (allOk sid))
    (Host.gather gather_S64x2x2_S16384x1_S16384x2x2_12_0_n_n_0_1_122 Wc (rowIdx sid))
    (broadcastInDim S16384x2x2 ![] bcast_S_S16384x2x2 (constant (F := Ideal) S_ .f32 0x7FC00000#32))

/-- The subjects' biases at the samples. -/
def biasAt (bc : S64x2.Idx → EReal) (sid : IVec S16384 32) : S16384x2.Idx → EReal :=
  select (broadcastInDim S16384x2 ![0] bcast_S16384_S16384x2_0 (allOk sid))
    (Host.gather gather_S64x2_S16384x1_S16384x2_1_0_n_n_0_1_12 bc (rowIdx sid))
    (broadcastInDim S16384x2 ![] bcast_S_S16384x2 (constant (F := Ideal) S_ .f32 0x7FC00000#32))

/-- The reference's result of its arguments. -/
def refOf (X : S16384x128.Idx → EReal) (sid : IVec S16384 32) (Wn : S128x2.Idx → EReal) (bn : S2.Idx → EReal) (Wc : S64x2x2.Idx → EReal)
    (bc : S64x2.Idx → EReal) : S16384x2.Idx → EReal :=
  addf (F := Ideal) (φ := .f32) (Host.dotGeneral (F := Ideal) (φ₁ := .f32) (φ₂ := .f32) dot_S16384x2_S16384x2x2_S16384x2_1_1_n_2_0_0 none
    (addf (F := Ideal) (φ := .f32) (Host.dotGeneral (F := Ideal) (φ₁ := .f32) (φ₂ := .f32) dot_S16384x128_S128x2_S16384x2_1_0_0_1_n_n none X Wn)
      (broadcastInDim S16384x2 ![0, 1] bcast_S1x2_S16384x2_0_1 (broadcastInDim S1x2 ![1] bcast_S2_S1x2_1 bn)))
    (matAt Wc sid)) (biasAt bc sid)

/-- A word below 64 is not negative, and no greater than 63, as a signed number. -/
theorem word_checks (v : BitVec 32) (h : v.toNat < 64) : IntOp.cmpi .slt v 0#32 = 0#1
    ∧ IntOp.andi (IntOp.cmpi .sge v 0#32) (IntOp.cmpi .sle v 63#32) = 1#1 := by
  have h1 : v.slt 0#32 = false := by
    simp only [BitVec.slt_eq_decide, decide_eq_false_iff_not, BitVec.toInt_eq_toNat_cond, BitVec.toNat_ofNat, Nat.reducePow, Nat.reduceMod]
    omega
  have h2 : (0#32).sle v = true := by
    simp only [BitVec.sle_eq_decide, decide_eq_true_eq, BitVec.toInt_eq_toNat_cond, BitVec.toNat_ofNat, Nat.reducePow, Nat.reduceMod]
    omega
  have h3 : v.sle 63#32 = true := by
    simp only [BitVec.sle_eq_decide, decide_eq_true_eq, BitVec.toInt_eq_toNat_cond, BitVec.toNat_ofNat, Nat.reducePow, Nat.reduceMod]
    omega
  constructor
  · show BitVec.ofBool (v.slt 0#32) = _
    rw [h1]
    rfl
  · show IntOp.andi (BitVec.ofBool ((0#32).sle v)) (BitVec.ofBool (v.sle 63#32)) = _
    rw [h2, h3]
    rfl

/-- A subject number below 64 is its own row number. -/
theorem rowIdx_apply (sid : IVec S16384 32) (n : Fin 16384) (h : (sid (ix1 n)).toNat < 64) : rowIdx sid (ix2 n 0) = sid (ix1 n) := by
  have e : rowIdx sid (ix2 n 0) = Scalar.select (IntOp.cmpi .slt (sid (ix1 n)) 0#32) (IntOp.addi (sid (ix1 n)) 64#32) (sid (ix1 n)) := by
    unfold rowIdx
    pointwise
  rw [e, (word_checks _ h).1]
  rfl

/-- Every subject number passes the check. -/
theorem allOk_apply (sid : IVec S16384 32) (h : ∀ n : Fin 16384, (sid (ix1 n)).toNat < 64) (n : Fin 16384) : allOk sid (ix1 n) = 1#1 := by
  refine Host.reduce_andi_one _ _ _ _ _ rfl fun i => ?_
  idx_vars i
  unfold rowOk
  pointwise
  obtain rfl : i1 = 0 := Subsingleton.elim _ _
  rw [rowIdx_apply sid i0 (h i0)]
  exact (word_checks _ (h i0)).2

/-- The gather of a matrix, at an entry: the row that the row number names. -/
theorem gather_matrix (x : S64x2x2.Idx → EReal) (idx : IVec S16384x1 32) (n : Fin 16384) (a b : Fin 2) (s : Fin 64)
    (hs : (idx (ix2 n 0)).toNat = s.val) :
    Host.gather gather_S64x2x2_S16384x1_S16384x2x2_12_0_n_n_0_1_122 x idx (ix3 n a b) = x (ix3 s a b) := by
  let d := gather_S64x2x2_S16384x1_S16384x2x2_12_0_n_n_0_1_122
  refine congrArg x (funext fun i => Fin.ext ?_)
  match i with
  | 0 =>
    have e : d.siIdx (ix3 n a b) ⟨0, Nat.one_pos⟩ = ix2 n 0 := by
      funext b
      match b with
      | 0 => rfl
      | 1 => rfl
    have e2 : (idx (ix2 n 0)).toInt.toNat = s.val := by rw [BitVec.toInt_eq_toNat_cond]; split <;> omega
    show min (idx (d.siIdx (ix3 n a b) ⟨0, Nat.one_pos⟩)).toInt.toNat (64 - 1) + 0 + 0 = s.val
    rw [e, e2]
    omega
  | 1 => exact Nat.zero_add _
  | 2 => exact Nat.zero_add _

/-- The gather of a bias, at an entry. -/
theorem gather_bias (x : S64x2.Idx → EReal) (idx : IVec S16384x1 32) (n : Fin 16384) (b : Fin 2) (s : Fin 64)
    (hs : (idx (ix2 n 0)).toNat = s.val) :
    Host.gather gather_S64x2_S16384x1_S16384x2_1_0_n_n_0_1_12 x idx (ix2 n b) = x (ix2 s b) := by
  let d := gather_S64x2_S16384x1_S16384x2_1_0_n_n_0_1_12
  refine congrArg x (funext fun i => Fin.ext ?_)
  match i with
  | 0 =>
    have e : d.siIdx (ix2 n b) ⟨0, Nat.one_pos⟩ = ix2 n 0 := by
      funext b
      match b with
      | 0 => rfl
      | 1 => rfl
    have e2 : (idx (ix2 n 0)).toInt.toNat = s.val := by rw [BitVec.toInt_eq_toNat_cond]; split <;> omega
    show min (idx (d.siIdx (ix2 n b) ⟨0, Nat.one_pos⟩)).toInt.toNat (64 - 1) + 0 + 0 = s.val
    rw [e, e2]
    omega
  | 1 => exact Nat.zero_add _

/-- The reference's result at an entry. -/
theorem refOf_apply (X : S16384x128.Idx → EReal) (sid : IVec S16384 32) (Wn : S128x2.Idx → EReal) (bn : S2.Idx → EReal) (Wc : S64x2x2.Idx → EReal)
    (bc : S64x2.Idx → EReal) (h : ∀ n : Fin 16384, (sid (ix1 n)).toNat < 64) (n : Fin 16384) (k : Fin 2) :
    refOf X sid Wn bn Wc bc (ix2 n k) = entry (fun d => X (ix2 n d)) Wn bn Wc bc ⟨(sid (ix1 n)).toNat, h n⟩ k := by
  have hm (a : Fin 2) : matAt Wc sid (ix3 n a k) = Wc (ix3 ⟨(sid (ix1 n)).toNat, h n⟩ a k) := by
    unfold matAt
    pointwise
    rw [allOk_apply sid h n, gather_matrix Wc _ n a k ⟨(sid (ix1 n)).toNat, h n⟩ (by rw [rowIdx_apply sid n (h n)])]
    rfl
  have hb : biasAt bc sid (ix2 n k) = bc (ix2 ⟨(sid (ix1 n)).toNat, h n⟩ k) := by
    unfold biasAt
    pointwise
    rw [allOk_apply sid h n, gather_bias bc _ n k ⟨(sid (ix1 n)).toNat, h n⟩ (by rw [rowIdx_apply sid n (h n)])]
    rfl
  unfold refOf entry
  pointwise
  rw [hb]
  simp only [hm]

end

end Cert.Proof.K

end
-- ==== Proof.Algebraic.lean ====
/-
  The value claim: over the extended reals the kernel and the reference, on the same arguments, end with the same result.
-/
module

public import proofs.«01_k».proof.Proof.Frames
public import proofs.«01_k».proof.Proof.Reference
public import proofs.«01_k».proof.Proof.Gen.ReferenceIdeal

@[expose] public section

noncomputable section

namespace Cert.Proof.K

open Idealize.ShloMosaic Idealize.ShloMosaic.TcCoe Idealize.SL.Sem
open Cert.KernelIdeal

/-- The result both programs are to end with, of the reference's arguments. -/
def result (m' : (ℓ : Loc Cert.ReferenceIdeal.nD Cert.ReferenceIdeal.τ Cert.ReferenceIdeal.sig) → Buf (Elt Ideal) ℓ) (c : Dev Cert.ReferenceIdeal.nD) :
    S16384x2.Idx → EReal :=
  refOf (m' ((c.tc : Thread _ Cert.ReferenceIdeal.τ).loc Cert.ReferenceIdeal.main_arg0)) (m' ((c.tc : Thread _ Cert.ReferenceIdeal.τ).loc Cert.ReferenceIdeal.main_arg1))
    (m' ((c.tc : Thread _ Cert.ReferenceIdeal.τ).loc Cert.ReferenceIdeal.main_arg2)) (m' ((c.tc : Thread _ Cert.ReferenceIdeal.τ).loc Cert.ReferenceIdeal.main_arg3))
    (m' ((c.tc : Thread _ Cert.ReferenceIdeal.τ).loc Cert.ReferenceIdeal.main_arg4)) (m' ((c.tc : Thread _ Cert.ReferenceIdeal.τ).loc Cert.ReferenceIdeal.main_arg5))

/-- The kernel's result of gathered rows that are right on the columns that count is the reference's. -/
theorem resOf_eq_refOf (X : S16384x128.Idx → EReal) (sid : S16384.Idx → BitVec 32) (Wn : S128x2.Idx → EReal) (bn : S2.Idx → EReal)
    (Wc : S64x2x2.Idx → EReal) (bc : S64x2.Idx → EReal) (g : S2048x128.Idx → EReal) (h : ∀ n : Fin 16384, (sid (ix1 n)).toNat < 64)
    (hg : Good (tabOf (F := Ideal) Wc bc) sid Finset.univ g) : resOf (F := Ideal) X Wn bn g = refOf X sid Wn bn Wc bc := by
  funext i
  idx_vars i
  exact (resOf_apply X Wn bn Wc bc sid g hg _ _ ⟨_, h _⟩ rfl).trans (refOf_apply X sid Wn bn Wc bc h _ _).symm

/-- The value claim. -/
theorem same_result : Cert.algebraic_KernelIdeal_ReferenceIdeal := by
  intro m ρ m' ρ' hp hargs
  refine ⟨result m', ?_, ?_⟩
  · refine θ_run_mono (run_all (F := Ideal) m ρ fun d x => ids_lt _ _ _ _ _ _ (hp d) x) ?_
    rintro r ⟨h, -⟩ c
    obtain ⟨hk, g, hg, hr⟩ := h c
    refine ⟨hr.trans ?_, hk⟩
    rw [tab_eq] at hg
    unfold result
    obtain ⟨h0, h1, h2, h3, h4, h5⟩ := hargs c
    rw [h0, h1, h2, h3, h4, h5]
    exact resOf_eq_refOf _ _ _ _ _ _ g (fun n => ids_lt _ _ _ _ _ _ (hp c) (ix1 n)) hg
  · exact θ_run_mono (Cert.ReferenceIdeal.Value.run (F := Ideal) m' ρ') fun r h c => ⟨(h c).1, (h c).2⟩

end Cert.Proof.K

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.Pre_ids_in_range
public import proofs.«01_k».proof.Proof.Gen.ReferenceIdeal
public import proofs.«01_k».proof.Proof.Gen.ReferenceIdeal.Run

@[expose] public section

noncomputable section

namespace Cert.Proof

/-- The whole certificate. -/
theorem claim : Cert.Claim :=
  ⟨Cert.Kernel.Gen.facts, Cert.KernelIdeal.Gen.facts, Cert.ReferenceIdeal.Gen.facts, Cert.Pre_ids_in_range.Gen.facts,
    K.frame_kernel, K.frame_ideal, K.frame_reference,
    fun m ρ _ => K.frame_reference m ρ trivial, trivial, K.same_result⟩

end Cert.Proof

end
